-- ==== Defs.lean ====
def Pre_Attn [hPre_sizes : Cert.Pre_sizes.Facts] (m : (ℓ : Loc Cert.Attn.nD Cert.Attn.τ Cert.Attn.sig) → Buf (Elt Bits) ℓ) : Prop :=
  ∀ c : Dev Cert.Attn.nD,
    (Cert.Pre_sizes.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).1 = (fun _ => 1#1)
    ∧ (Cert.Pre_sizes.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2 = (fun _ => 1#1)

def Pre_AttnIdeal [hPre_sizes : Cert.Pre_sizes.Facts] (m : (ℓ : Loc Cert.AttnIdeal.nD Cert.AttnIdeal.τ Cert.AttnIdeal.sig) → Buf (Elt Ideal) ℓ) : Prop :=
  ∀ c : Dev Cert.AttnIdeal.nD,
    (Cert.Pre_sizes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_sizes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_sizes [hPre_sizes : Cert.Pre_sizes.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_sizes.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_sizes.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2 = (fun _ => 1#1)

def quiescent_Attn [hAttn : Cert.Attn.Facts] [hPre_sizes : Cert.Pre_sizes.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_sizes : Cert.Pre_sizes.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_sizes [hAttnRefIdeal : Cert.AttnRefIdeal.Facts] [hPre_sizes : Cert.Pre_sizes.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_sizes m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def preserves_Attn_AttnIdeal : Prop :=
  IdealRules.named_const.Statement Cert.AttnIdeal.κ "scale_log2e" .f32 0x3E0293EE#32 (((Real.sqrt 128)⁻¹ * (Real.log 2)⁻¹ : ℝ) : EReal)

def algebraic_AttnIdeal_AttnRefIdeal [hAttnIdeal : Cert.AttnIdeal.Facts] [hAttnRefIdeal : Cert.AttnRefIdeal.Facts] [hPre_sizes : Cert.Pre_sizes.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v0_0) = v0 c
          ∧ r.2.mem ((c.tc : Thread Cert.AttnRefIdeal.nD Cert.AttnRefIdeal.τ).loc Cert.AttnRefIdeal.main_v0_1) = v1 c
          ∧ r.2.mem ((c.tc : Thread Cert.AttnRefIdeal.nD Cert.AttnRefIdeal.τ).loc Cert.AttnRefIdeal.main_v0_2) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def Claim : Prop :=
  ∃ (hAttn : Cert.Attn.Facts) (hAttnIdeal : Cert.AttnIdeal.Facts) (hAttnRefIdeal : Cert.AttnRefIdeal.Facts) (hPre_sizes : Cert.Pre_sizes.Facts),
    quiescent_Attn (hAttn := hAttn) (hPre_sizes := hPre_sizes)
    ∧ quiescent_AttnIdeal (hAttnIdeal := hAttnIdeal) (hPre_sizes := hPre_sizes)
    ∧ quiescent_AttnRefIdeal (hAttnRefIdeal := hAttnRefIdeal)
    ∧ quiescent_AttnRefIdeal_pre_sizes (hAttnRefIdeal := hAttnRefIdeal) (hPre_sizes := hPre_sizes)
    ∧ preserves_Attn_AttnIdeal
    ∧ algebraic_AttnIdeal_AttnRefIdeal (hAttnIdeal := hAttnIdeal) (hAttnRefIdeal := hAttnRefIdeal) (hPre_sizes := hPre_sizes)
-- ==== Pre_sizes.lean ====
abbrev S2 : Shape := ⟨1, ![2]⟩
abbrev S2x6144x128 : Shape := ⟨3, ![2, 6144, 128]⟩
abbrev S2x32768x128 : Shape := ⟨3, ![2, 32768, 128]⟩
abbrev S2x1x32768 : Shape := ⟨3, ![2, 1, 32768]⟩
abbrev S2x8x128 : Shape := ⟨3, ![2, 8, 128]⟩
abbrev S_ : Shape := ⟨0, ![]⟩

class Facts : Prop where
  bitsLt_bf16_f32 : FTy.bits .bf16 < FTy.bits .f32
  bcast_S_S2x6144x128 : S_.BroadcastsInDim S2x6144x128 (![] : Fin 0 → Fin S2x6144x128.rank)
  bcast_S_S2 : S_.BroadcastsInDim S2 (![] : Fin 0 → Fin S2.rank)

variable [Facts]

def fn {F : FTy → Type} [FloatOps F] (main_arg0 : IVec S2 32) (main_arg1 : FVec F S2x6144x128 .bf16) (main_arg2 : FVec F S2x32768x128 .fp8e4m3) (main_arg3 : FVec F S2x1x32768 .f32) (main_arg4 : FVec F S2x32768x128 .fp8e4m3) (main_arg5 : FVec F S2x8x128 .f32) : IVec S2 1 × IVec S2x6144x128 1 :=
  let main_v0 : FVec F S2x6144x128 .f32 := (extf .f32 · bitsLt_bf16_f32) main_arg1
  let main_v1 : FVec F S2x6144x128 .f32 := Host.absf main_v0
  let main_cst : FVec F S_ .f32 := constant S_ .f32 0x7F7F0000#32
  let main_v2 : FVec F S2x6144x128 .f32 := broadcastInDim S2x6144x128 ![] bcast_S_S2x6144x128 main_cst
  let main_v3 : IVec S2x6144x128 1 := cmpf .ole main_v1 main_v2
  let main_c : IVec S_ 32 := constantI S_ 32 1#32
  let main_v4 : IVec S2 32 := broadcastInDim S2 ![] bcast_S_S2 main_c
  let main_v5 : IVec S2 1 := cmpi .sge main_arg0 main_v4
  let main_c_0 : IVec S_ 32 := constantI S_ 32 32768#32
  let main_v6 : IVec S2 32 := broadcastInDim S2 ![] bcast_S_S2 main_c_0
  let main_v7 : IVec S2 1 := cmpi .sle main_arg0 main_v6
  let main_v8 : IVec S2 1 := andi main_v5 main_v7
  (main_v8, main_v3)
-- ==== Attn.lean ====
abbrev S2 : Shape := ⟨1, ![2]⟩
abbrev S2x6144x128 : Shape := ⟨3, ![2, 6144, 128]⟩
abbrev S2x32768x128 : Shape := ⟨3, ![2, 32768, 128]⟩
abbrev S2x1x32768 : Shape := ⟨3, ![2, 1, 32768]⟩
abbrev S2x8x128 : Shape := ⟨3, ![2, 8, 128]⟩
abbrev S2x1x6144 : Shape := ⟨3, ![2, 1, 6144]⟩
abbrev S1x256x128 : Shape := ⟨3, ![1, 256, 128]⟩
abbrev S1x32768x128 : Shape := ⟨3, ![1, 32768, 128]⟩
abbrev S1x1x32768 : Shape := ⟨3, ![1, 1, 32768]⟩
abbrev S1x8x128 : Shape := ⟨3, ![1, 8, 128]⟩
abbrev S1x1x256 : Shape := ⟨3, ![1, 1, 256]⟩
abbrev S32x256x1024 : Shape := ⟨3, ![32, 256, 1024]⟩
abbrev S256x128 : Shape := ⟨2, ![256, 128]⟩
abbrev S1 : Shape := ⟨1, ![1]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩
abbrev S1x1024x128 : Shape := ⟨3, ![1, 1024, 128]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1x256x1024 : Shape := ⟨3, ![1, 256, 1024]⟩
abbrev S1x1x128 : Shape := ⟨3, ![1, 1, 128]⟩

abbrev nBuf : Space → Nat
  | .hbm => 8
  | .vmem => 20
  | .smem => 1
  | _ => 0

abbrev bufTy : (tb : Table) → Fin (tcTables nBuf tb) → BufTy
  | .hbm, ⟨0, _⟩ => ⟨S2x6144x128, .bf16⟩
  | .hbm, ⟨1, _⟩ => ⟨S2x32768x128, .fp8e4m3⟩
  | .hbm, ⟨2, _⟩ => ⟨S2x1x32768, .f32⟩
  | .hbm, ⟨3, _⟩ => ⟨S2x32768x128, .fp8e4m3⟩
  | .hbm, ⟨4, _⟩ => ⟨S2x8x128, .f32⟩
  | .hbm, ⟨5, _⟩ => ⟨S2x6144x128, .bf16⟩
  | .hbm, ⟨6, _⟩ => ⟨S2x6144x128, .fp8e4m3⟩
  | .hbm, ⟨7, _⟩ => ⟨S2x1x6144, .f32⟩
  | .local _ .vmem, ⟨0, _⟩ => ⟨S1x256x128, .bf16⟩
  | .local _ .vmem, ⟨1, _⟩ => ⟨S1x256x128, .bf16⟩
  | .local _ .vmem, ⟨2, _⟩ => ⟨S1x32768x128, .fp8e4m3⟩
  | .local _ .vmem, ⟨3, _⟩ => ⟨S1x32768x128, .fp8e4m3⟩
  | .local _ .vmem, ⟨4, _⟩ => ⟨S1x1x32768, .f32⟩
  | .local _ .vmem, ⟨5, _⟩ => ⟨S1x1x32768, .f32⟩
  | .local _ .vmem, ⟨6, _⟩ => ⟨S1x32768x128, .fp8e4m3⟩
  | .local _ .vmem, ⟨7, _⟩ => ⟨S1x32768x128, .fp8e4m3⟩
  | .local _ .vmem, ⟨8, _⟩ => ⟨S1x8x128, .f32⟩
  | .local _ .vmem, ⟨9, _⟩ => ⟨S1x8x128, .f32⟩
  | .local _ .vmem, ⟨10, _⟩ => ⟨S1x256x128, .bf16⟩
  | .local _ .vmem, ⟨11, _⟩ => ⟨S1x256x128, .bf16⟩
  | .local _ .vmem, ⟨12, _⟩ => ⟨S1x256x128, .fp8e4m3⟩
  | .local _ .vmem, ⟨13, _⟩ => ⟨S1x256x128, .fp8e4m3⟩
  | .local _ .vmem, ⟨14, _⟩ => ⟨S1x1x256, .f32⟩
  | .local _ .vmem, ⟨15, _⟩ => ⟨S1x1x256, .f32⟩
  | .local _ .vmem, ⟨16, _⟩ => ⟨S32x256x1024, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .smem, ⟨0, _⟩ => ⟨S2, .i32⟩
  | _, _ => ⟨S2x6144x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 24], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let c1_i32_46 : BitVec 32 := 1#32
  ⟨c0_i32_43, v152, c1_i32_46⟩

def k0_mult1 (v1 : BitVec 32) (k0_t1 : Fin (k0_t1_loop v1).trips) : BitVec 32 :=
  let c0_i32_43 : BitVec 32 := 0#32
  let c1_i32_46 : BitVec 32 := 1#32
  let arg15 : BitVec 32 := Scf.iv c0_i32_43 c1_i32_46 k0_t1
  let c1024_i32_89 : BitVec 32 := 1024#32
  let v238 : BitVec 32 := Scalar.muli arg15 c1024_i32_89
  v238
def k0_off2 (v1 : BitVec 32) (k0_t1 : Fin (k0_t1_loop v1).trips) : Fin 3 → Nat :=
  let c0_93 : Index := 0#32
  let c0_i32_43 : BitVec 32 := 0#32
  let c1_i32_46 : BitVec 32 := 1#32
  let arg15 : BitVec 32 := Scf.iv c0_i32_43 c1_i32_46 k0_t1
  let c1024_i32_89 : BitVec 32 := 1024#32
  let v238 : BitVec 32 := Scalar.muli arg15 c1024_i32_89
  let v239 : BitVec 32 := v238
  let v242 : Index := Scalar.indexCast v239
  let c0_94 : Index := 0#32
  ![0, v242.toNat, 0]
def k0_off3 (v1 : BitVec 32) (k0_t1 : Fin (k0_t1_loop v1).trips) : Fin 3 → Nat :=
  let c0_96 : Index := 0#32
  let c0_97 : Index := 0#32
  let c0_i32_43 : BitVec 32 := 0#32
  let c1_i32_46 : BitVec 32 := 1#32
  let arg15 : BitVec 32 := Scf.iv c0_i32_43 c1_i32_46 k0_t1
  let c1024_i32_89 : BitVec 32 := 1024#32
  let v238 : BitVec 32 := Scalar.muli arg15 c1024_i32_89
  let v239 : BitVec 32 := v238
  let v246 : Index := Scalar.indexCast v239
  ![0, 0, v246.toNat]
def k0_off4 (v1 : BitVec 32) (k0_t1 : Fin (k0_t1_loop v1).trips) : Fin 3 → Nat :=
  let c0_i32_43 : BitVec 32 := 0#32
  let c1_i32_46 : BitVec 32 := 1#32
  let arg15 : BitVec 32 := Scf.iv c0_i32_43 c1_i32_46 k0_t1
  let v251 : Index := Scalar.indexCast arg15
  let c0_98 : Index := 0#32
  let c0_99 : Index := 0#32
  ![v251.toNat, 0, 0]
@[reducible] def k0_t2_loop (v1 : BitVec 32) : Scf.Loop 32 :=
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let v149 : BitVec 32 := Scalar.addi c0_i32_43 v148
  let c1_i32_47 : BitVec 32 := 1#32
  ⟨v152, v149, c1_i32_47⟩
def k0_mult2 (v1 : BitVec 32) (k0_t2 : Fin (k0_t2_loop v1).trips) : BitVec 32 :=
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let c1_i32_47 : BitVec 32 := 1#32
  let arg15 : BitVec 32 := Scf.iv v152 c1_i32_47 k0_t2
  let c1024_i32_89 : BitVec 32 := 1024#32
  let v238 : BitVec 32 := Scalar.muli arg15 c1024_i32_89
  v238
def k0_off5 (v1 : BitVec 32) (k0_t2 : Fin (k0_t2_loop v1).trips) : Fin 3 → Nat :=
  let c0_93 : Index := 0#32
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let c1_i32_47 : BitVec 32 := 1#32
  let arg15 : BitVec 32 := Scf.iv v152 c1_i32_47 k0_t2
  let c1024_i32_89 : BitVec 32 := 1024#32
  let v238 : BitVec 32 := Scalar.muli arg15 c1024_i32_89
  let v239 : BitVec 32 := v238
  let v242 : Index := Scalar.indexCast v239
  let c0_94 : Index := 0#32
  ![0, v242.toNat, 0]
def k0_off6 (v1 : BitVec 32) (k0_t2 : Fin (k0_t2_loop v1).trips) : Fin 3 → Nat :=
  let c0_96 : Index := 0#32
  let c0_97 : Index := 0#32
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let c1_i32_47 : BitVec 32 := 1#32
  let arg15 : BitVec 32 := Scf.iv v152 c1_i32_47 k0_t2
  let c1024_i32_89 : BitVec 32 := 1024#32
  let v238 : BitVec 32 := Scalar.muli arg15 c1024_i32_89
  let v239 : BitVec 32 := v238
  let v246 : Index := Scalar.indexCast v239
  ![0, 0, v246.toNat]
def k0_off7 (v1 : BitVec 32) (k0_t2 : Fin (k0_t2_loop v1).trips) : Fin 3 → Nat :=
  let c0_i32_43 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_42 : BitVec 32 := 1#32
  let v147 : BitVec 32 := Scalar.subi v3 c1_i32_42
  let v148 : BitVec 32 := Scalar.subi v147 c0_i32_43
  let c1_i32_45 : BitVec 32 := 1#32
  let v150 : BitVec 32 := Scalar.divsi v148 c1_i32_45
  let v151 : BitVec 32 := Scalar.muli v150 c1_i32_45
  let v152 : BitVec 32 := Scalar.addi c0_i32_43 v151
  let c1_i32_47 : BitVec 32 := 1#32
  let arg15 : BitVec 32 := Scf.iv v152 c1_i32_47 k0_t2
  let v251 : Index := Scalar.indexCast arg15
  let c0_98 : Index := 0#32
  let c0_99 : Index := 0#32
  ![v251.toNat, 0, 0]
def k0_mult3 (v1 : BitVec 32) : BitVec 32 :=
  let c1023_i32 : BitVec 32 := 1023#32
  let v2 : BitVec 32 := Scalar.addi v1 c1023_i32
  let c1024_i32 : BitVec 32 := 1024#32
  let v3 : BitVec 32 := Scalar.divsi v2 c1024_i32
  let c1_i32_48 : BitVec 32 := 1#32
  let v155 : BitVec 32 := Scalar.subi v3 c1_i32_48
  let c1024_i32_49 : BitVec 32 := 1024#32
  let v156 : BitVec 32 := Scalar.muli v155 c1024_i32_49
  v156
def k0_off8 (v1 : BitVec 32) : Fin 3 → Nat :=
  let c0_53 : Index := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_48 : BitVec 32 := 1#32
  let v155 : BitVec 32 := Scalar.subi v3 c1_i32_48
  let c1024_i32_49 : BitVec 32 := 1024#32
  let v156 : BitVec 32 := Scalar.muli v155 c1024_i32_49
  let v157 : BitVec 32 := v156
  let v160 : Index := Scalar.indexCast v157
  let c0_54 : Index := 0#32
  ![0, v160.toNat, 0]
def k0_off9 (v1 : BitVec 32) : Fin 3 → Nat :=
  let c0_56 : Index := 0#32
  let c0_57 : Index := 0#32
  let c1023_i32 : BitVec 32 := 1023#32
  let v2 : BitVec 32 := Scalar.addi v1 c1023_i32
  let c1024_i32 : BitVec 32 := 1024#32
  let v3 : BitVec 32 := Scalar.divsi v2 c1024_i32
  let c1_i32_48 : BitVec 32 := 1#32
  let v155 : BitVec 32 := Scalar.subi v3 c1_i32_48
  let c1024_i32_49 : BitVec 32 := 1024#32
  let v156 : BitVec 32 := Scalar.muli v155 c1024_i32_49
  let v157 : BitVec 32 := v156
  let v164 : Index := Scalar.indexCast v157
  ![0, 0, v164.toNat]
def k0_off10 (v1 : BitVec 32) : Fin 3 → Nat :=
  let c1023_i32 : BitVec 32 := 1023#32
  let v2 : BitVec 32 := Scalar.addi v1 c1023_i32
  let c1024_i32 : BitVec 32 := 1024#32
  let v3 : BitVec 32 := Scalar.divsi v2 c1024_i32
  let c1_i32_48 : BitVec 32 := 1#32
  let v155 : BitVec 32 := Scalar.subi v3 c1_i32_48
  let v178 : Index := Scalar.indexCast v155
  let c0_59 : Index := 0#32
  let c0_60 : Index := 0#32
  ![v178.toNat, 0, 0]
@[reducible] def k0_t3_loop (v1 : BitVec 32) : Scf.Loop 32 :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_74 : BitVec 32 := 1#32
  ⟨c0_i32_71, v217, c1_i32_74⟩
def k0_mult4 (v1 : BitVec 32) (k0_t3 : Fin (k0_t3_loop v1).trips) : BitVec 32 :=
  let c0_i32_71 : BitVec 32 := 0#32
  let c1_i32_74 : BitVec 32 := 1#32
  let arg15 : BitVec 32 := Scf.iv c0_i32_71 c1_i32_74 k0_t3
  let c1024_i32_89 : BitVec 32 := 1024#32
  let v238 : BitVec 32 := Scalar.muli arg15 c1024_i32_89
  v238
def k0_off11 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v242 : Index := Scalar.indexCast arg15
  let c0_94 : Index := 0#32
  let c0_95 : Index := 0#32
  ![v242.toNat, 0, 0]
def k0_off12 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v254 : Index := Scalar.indexCast arg15
  let c0_98 : Index := 0#32
  let c128 : Index := 128#32
  ![v254.toNat, 0, 128]
def k0_off13 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v266 : Index := Scalar.indexCast arg15
  let c0_101 : Index := 0#32
  let c256 : Index := 256#32
  ![v266.toNat, 0, 256]
def k0_off14 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v278 : Index := Scalar.indexCast arg15
  let c0_104 : Index := 0#32
  let c384 : Index := 384#32
  ![v278.toNat, 0, 384]
def k0_off15 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v290 : Index := Scalar.indexCast arg15
  let c0_107 : Index := 0#32
  let c512 : Index := 512#32
  ![v290.toNat, 0, 512]
def k0_off16 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v302 : Index := Scalar.indexCast arg15
  let c0_110 : Index := 0#32
  let c640 : Index := 640#32
  ![v302.toNat, 0, 640]
def k0_off17 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v314 : Index := Scalar.indexCast arg15
  let c0_113 : Index := 0#32
  let c768 : Index := 768#32
  ![v314.toNat, 0, 768]
def k0_off18 (v1 : BitVec 32) (k0_t3 : Fin (k0_t3_loop v1).trips) : Fin 3 → Nat :=
  let c0_i32_71 : BitVec 32 := 0#32
  let c1_i32_74 : BitVec 32 := 1#32
  let arg15 : BitVec 32 := Scf.iv c0_i32_71 c1_i32_74 k0_t3
  let v326 : Index := Scalar.indexCast arg15
  let c0_116 : Index := 0#32
  let c896 : Index := 896#32
  ![v326.toNat, 0, 896]
def k0_off19 (v1 : BitVec 32) (k0_t3 : Fin (k0_t3_loop v1).trips) : Fin 3 → Nat :=
  let c0_123 : Index := 0#32
  let c0_i32_71 : BitVec 32 := 0#32
  let c1_i32_74 : BitVec 32 := 1#32
  let arg15 : BitVec 32 := Scf.iv c0_i32_71 c1_i32_74 k0_t3
  let c1024_i32_89 : BitVec 32 := 1024#32
  let v238 : BitVec 32 := Scalar.muli arg15 c1024_i32_89
  let v239 : BitVec 32 := v238
  let v343 : Index := Scalar.indexCast v239
  let c0_124 : Index := 0#32
  ![0, v343.toNat, 0]
@[reducible] def k0_t4_loop (v1 : BitVec 32) : Scf.Loop 32 :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let v214 : BitVec 32 := Scalar.addi c0_i32_71 v213
  let c1_i32_75 : BitVec 32 := 1#32
  ⟨v217, v214, c1_i32_75⟩
def k0_mult5 (v1 : BitVec 32) (k0_t4 : Fin (k0_t4_loop v1).trips) : BitVec 32 :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let c1024_i32_89 : BitVec 32 := 1024#32
  let v238 : BitVec 32 := Scalar.muli arg15 c1024_i32_89
  v238
def k0_off20 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v242 : Index := Scalar.indexCast arg15
  let c0_94 : Index := 0#32
  let c0_95 : Index := 0#32
  ![v242.toNat, 0, 0]
def k0_off21 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v254 : Index := Scalar.indexCast arg15
  let c0_98 : Index := 0#32
  let c128 : Index := 128#32
  ![v254.toNat, 0, 128]
def k0_off22 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v266 : Index := Scalar.indexCast arg15
  let c0_101 : Index := 0#32
  let c256 : Index := 256#32
  ![v266.toNat, 0, 256]
def k0_off23 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v278 : Index := Scalar.indexCast arg15
  let c0_104 : Index := 0#32
  let c384 : Index := 384#32
  ![v278.toNat, 0, 384]
def k0_off24 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v290 : Index := Scalar.indexCast arg15
  let c0_107 : Index := 0#32
  let c512 : Index := 512#32
  ![v290.toNat, 0, 512]
def k0_off25 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v302 : Index := Scalar.indexCast arg15
  let c0_110 : Index := 0#32
  let c640 : Index := 640#32
  ![v302.toNat, 0, 640]
def k0_off26 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v314 : Index := Scalar.indexCast arg15
  let c0_113 : Index := 0#32
  let c768 : Index := 768#32
  ![v314.toNat, 0, 768]
def k0_off27 (v1 : BitVec 32) (k0_t4 : Fin (k0_t4_loop v1).trips) : Fin 3 → Nat :=
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let v326 : Index := Scalar.indexCast arg15
  let c0_116 : Index := 0#32
  let c896 : Index := 896#32
  ![v326.toNat, 0, 896]
def k0_off28 (v1 : BitVec 32) (k0_t4 : Fin (k0_t4_loop v1).trips) : Fin 3 → Nat :=
  let c0_123 : Index := 0#32
  let c0_i32_71 : BitVec 32 := 0#32
  let c1023_i32 : BitVec 32 := 1023#32
  let v2 : BitVec 32 := Scalar.addi v1 c1023_i32
  let c1024_i32 : BitVec 32 := 1024#32
  let v3 : BitVec 32 := Scalar.divsi v2 c1024_i32
  let v213 : BitVec 32 := Scalar.subi v3 c0_i32_71
  let c1_i32_73 : BitVec 32 := 1#32
  let v215 : BitVec 32 := Scalar.divsi v213 c1_i32_73
  let v216 : BitVec 32 := Scalar.muli v215 c1_i32_73
  let v217 : BitVec 32 := Scalar.addi c0_i32_71 v216
  let c1_i32_75 : BitVec 32 := 1#32
  let arg15 : BitVec 32 := Scf.iv v217 c1_i32_75 k0_t4
  let c1024_i32_89 : BitVec 32 := 1024#32
  let v238 : BitVec 32 := Scalar.muli arg15 c1024_i32_89
  let v239 : BitVec 32 := v238
  let v343 : Index := Scalar.indexCast v239
  let c0_124 : Index := 0#32
  ![0, v343.toNat, 0]

def k0_chk1_0 (v1 : BitVec 32) : Prop :=
  ((k0_t1_loop v1).OK) ∧
  (∀ k0_t1 : Fin (k0_t1_loop v1).trips, 1024 ∣ (k0_mult1 v1 k0_t1).toNat) ∧
  (∀ k0_t1 : Fin (k0_t1_loop v1).trips, ∀ a, (k0_off2 v1 k0_t1) a + S1x1024x128.size a ≤ S1x32768x128.size a) ∧
  (∀ k0_t1 : Fin (k0_t1_loop v1).trips, ∀ a, (k0_off3 v1 k0_t1) a + S1x1x1024.size a ≤ S1x1x32768.size a) ∧
  (∀ k0_t1 : Fin (k0_t1_loop v1).trips, ∀ a, (k0_off4 v1 k0_t1) a + S1x256x1024.size a ≤ S32x256x1024.size a) ∧
  ((k0_t2_loop v1).OK) ∧
  (∀ k0_t2 : Fin (k0_t2_loop v1).trips, 1024 ∣ (k0_mult2 v1 k0_t2).toNat) ∧
  (∀ k0_t2 : Fin (k0_t2_loop v1).trips, ∀ a, (k0_off5 v1 k0_t2) a + S1x1024x128.size a ≤ S1x32768x128.size a) ∧
  (∀ k0_t2 : Fin (k0_t2_loop v1).trips, ∀ a, (k0_off6 v1 k0_t2) a + S1x1x1024.size a ≤ S1x1x32768.size a) ∧
  (∀ k0_t2 : Fin (k0_t2_loop v1).trips, ∀ a, (k0_off7 v1 k0_t2) a + S1x256x1024.size a ≤ S32x256x1024.size a) ∧
  (1024 ∣ (k0_mult3 v1).toNat) ∧
  (∀ a, (k0_off8 v1) a + S1x1024x128.size a ≤ S1x32768x128.size a) ∧
  (∀ a, (k0_off9 v1) a + S1x1x1024.size a ≤ S1x1x32768.size a) ∧
  (∀ a, (k0_off10 v1) a + S1x256x1024.size a ≤ S32x256x1024.size a) ∧
  ((k0_t3_loop v1).OK) ∧
  (∀ k0_t3 : Fin (k0_t3_loop v1).trips, 1024 ∣ (k0_mult4 v1 k0_t3).toNat) ∧
  (∀ k0_t3 : Fin (k0_t3_loop v1).trips, ∀ a, (k0_off11 v1 k0_t3) a + S1x256x128.size a ≤ S32x256x1024.size a) ∧
  (∀ k0_t3 : Fin (k0_t3_loop v1).trips, ∀ a, (k0_off12 v1 k0_t3) a + S1x256x128.size a ≤ S32x256x1024.size a) ∧
  (∀ k0_t3 : Fin (k0_t3_loop v1).trips, ∀ a, (k0_off13 v1 k0_t3) a + S1x256x128.size a ≤ S32x256x1024.size a) ∧
  (∀ k0_t3 : Fin (k0_t3_loop v1).trips, ∀ a, (k0_off14 v1 k0_t3) a + S1x256x128.size a ≤ S32x256x1024.size a) ∧
  (∀ k0_t3 : Fin (k0_t3_loop v1).trips, ∀ a, (k0_off15 v1 k0_t3) a + S1x256x128.size a ≤ S32x256x1024.size a) ∧
  (∀ k0_t3 : Fin (k0_t3_loop v1).trips, ∀ a, (k0_off16 v1 k0_t3) a + S1x256x128.size a ≤ S32x256x1024.size a) ∧
  (∀ k0_t3 : Fin (k0_t3_loop v1).trips, ∀ a, (k0_off17 v1 k0_t3) a + S1x256x128.size a ≤ S32x256x1024.size a) ∧
  (∀ k0_t3 : Fin (k0_t3_loop v1).trips, ∀ a, (k0_off18 v1 k0_t3) a + S1x256x128.size a ≤ S32x256x1024.size a) ∧
  (∀ k0_t3 : Fin (k0_t3_loop v1).trips, ∀ a, (k0_off19 v1 k0_t3) a + S1x1024x128.size a ≤ S1x32768x128.size a) ∧
  ((k0_t4_loop v1).OK) ∧
  (∀ k0_t4 : Fin (k0_t4_loop v1).trips, 1024 ∣ (k0_mult5 v1 k0_t4).toNat) ∧
  (∀ k0_t4 : Fin (k0_t4_loop v1).trips, ∀ a, (k0_off20 v1 k0_t4) a + S1x256x128.size a ≤ S32x256x1024.size a) ∧
  (∀ k0_t4 : Fin (k0_t4_loop v1).trips, ∀ a, (k0_off21 v1 k0_t4) a + S1x256x128.size a ≤ S32x256x1024.size a) ∧
  (∀ k0_t4 : Fin (k0_t4_loop v1).trips, ∀ a, (k0_off22 v1 k0_t4) a + S1x256x128.size a ≤ S32x256x1024.size a) ∧
  (∀ k0_t4 : Fin (k0_t4_loop v1).trips, ∀ a, (k0_off23 v1 k0_t4) a + S1x256x128.size a ≤ S32x256x1024.size a) ∧
  (∀ k0_t4 : Fin (k0_t4_loop v1).trips, ∀ a, (k0_off24 v1 k0_t4) a + S1x256x128.size a ≤ S32x256x1024.size a)
def k0_chk1_1 (v1 : BitVec 32) : Prop :=
  (∀ k0_t4 : Fin (k0_t4_loop v1).trips, ∀ a, (k0_off25 v1 k0_t4) a + S1x256x128.size a ≤ S32x256x1024.size a) ∧
  (∀ k0_t4 : Fin (k0_t4_loop v1).trips, ∀ a, (k0_off26 v1 k0_t4) a + S1x256x128.size a ≤ S32x256x1024.size a) ∧
  (∀ k0_t4 : Fin (k0_t4_loop v1).trips, ∀ a, (k0_off27 v1 k0_t4) a + S1x256x128.size a ≤ S32x256x1024.size a) ∧
  (∀ k0_t4 : Fin (k0_t4_loop v1).trips, ∀ a, (k0_off28 v1 k0_t4) a + S1x1024x128.size a ≤ S1x32768x128.size a)
def k0_chk1 (v1 : BitVec 32) : Prop :=
  k0_chk1_0 v1 ∧
  k0_chk1_1 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 1024 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x1024x128.size a ≤ S1x32768x128.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x1x1024.size a ≤ S1x1x32768.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S1x256x1024.size a ≤ S32x256x1024.size a := fun v1 k0_hw1 k0_t1 => k0_hw1.1.2.2.2.2.1 k0_t1
theorem k0_t2_ok : ∀ (v1 : BitVec 32) (k0_hw1 : k0_chk1 v1), (k0_t2_loop v1).OK := fun v1 k0_hw1 => k0_hw1.1.2.2.2.2.2.1
theorem k0_mult2_dvd : ∀ (v1 : BitVec 32) (k0_hw1 : k0_chk1 v1) (k0_t2 : Fin (k0_t2_loop v1).trips), 1024 ∣ (k0_mult2 v1 k0_t2).toNat := fun v1 k0_hw1 k0_t2 => k0_hw1.1.2.2.2.2.2.2.1 k0_t2
theorem k0_off5_inb : ∀ (v1 : BitVec 32) (k0_hw1 : k0_chk1 v1) (k0_t2 : Fin (k0_t2_loop v1).trips), ∀ a, (k0_off5 v1 k0_t2) a + S1x1024x128.size a ≤ S1x32768x128.size a := fun v1 k0_hw1 k0_t2 => k0_hw1.1.2.2.2.2.2.2.2.1 k0_t2
theorem k0_off6_inb : ∀ (v1 : BitVec 32) (k0_hw1 : k0_chk1 v1) (k0_t2 : Fin (k0_t2_loop v1).trips), ∀ a, (k0_off6 v1 k0_t2) a + S1x1x1024.size a ≤ S1x1x32768.size a := fun v1 k0_hw1 k0_t2 => k0_hw1.1.2.2.2.2.2.2.2.2.1 k0_t2
theorem k0_off7_inb : ∀ (v1 : BitVec 32) (k0_hw1 : k0_chk1 v1) (k0_t2 : Fin (k0_t2_loop v1).trips), ∀ a, (k0_off7 v1 k0_t2) a + S1x256x1024.size a ≤ S32x256x1024.size a := fun v1 k0_hw1 k0_t2 => k0_hw1.1.2.2.2.2.2.2.2.2.2.1 k0_t2
theorem k0_mult3_dvd : ∀ (v1 : BitVec 32) (k0_hw1 : k0_chk1 v1), 1024 ∣ (k0_mult3 v1).toNat := fun v1 k0_hw1 => k0_hw1.1.2.2.2.2.2.2.2.2.2.2.1
theorem k0_off8_inb : ∀ (v1 : BitVec 32) (k0_hw1 : k0_chk1 v1), ∀ a, (k0_off8 v1) a + S1x1024x128.size a ≤ S1x32768x128.size a := fun v1 k0_hw1 => k0_hw1.1.2.2.2.2.2.2.2.2.2.2.2.1
theorem k0_off9_inb : ∀ (v1 : BitVec 32) (k0_hw1 : k0_chk1 v1), ∀ a, (k0_off9 v1) a + S1x1x1024.size a ≤ S1x1x32768.size a := fun v1 k0_hw1 => k0_hw1.1.2.2.2.2.2.2.2.2.2.2.2.2.1
theorem k0_off10_inb : ∀ (v1 : BitVec 32) (k0_hw1 : k0_chk1 v1), ∀ a, (k0_off10 v1) a + S1x256x1024.size a ≤ S32x256x1024.size a := fun v1 k0_hw1 => k0_hw1.1.2.2.2.2.2.2.2.2.2.2.2.2.2.1
theorem k0_t3_ok : ∀ (v1 : BitVec 32) (k0_hw1 : k0_chk1 v1), (k0_t3_loop v1).OK := fun v1 k0_hw1 => k0_hw1.1.2.2.2.2.2.2.2.2.2.2.2.2.2.2.1
theorem k0_mult4_dvd : ∀ (v1 : BitVec 32) (k0_hw1 : k0_chk1 v1) (k0_t3 : Fin (k0_t3_loop v1).trips), 1024 ∣ (k0_mult4 v1 k0_t3).toNat := fun v1 k0_hw1 k0_t3 => k0_hw1.1.2.2.2.2.2.2.2.2.2.2.2.2.2.2.2.1 k0_t3
theorem k0_off11_inb : ∀ (v1 : BitVec 32) (k0_hw1 : k0_chk1 v1) (k0_t3 : Fin (k0_t3_loop v1).trips), ∀ a, (k0_off11 v1 k0_t3) a + S1x256x128.size a ≤ S32x256x1024.size a := fun v1 k0_hw1 k0_t3 => k0_hw1.1.2.2.2.2.2.2.2.2.2.2.2.2.2.2.2.2.1 k0_t3
theorem k0_off12_inb : ∀ (v1 : BitVec 32) (k0_hw1 : k0_chk1 v1) (k0_t3 : Fin (k0_t3_loop v1).trips), ∀ a, (k0_off12 v1 k0_t3) a + S1x256x128.size a ≤ S32x256x1024.size a := fun v1 k0_hw1 k0_t3 => k0_hw1.1.2.2.2.2.2.2.2.2.2.2.2.2.2.2.2.2.2.1 k0_t3
theorem k0_off13_inb : ∀ (v1 : BitVec 32) (k0_hw1 : k0_chk1 v1) (k0_t3 : Fin (k0_t3_loop v1).trips), ∀ a, (k0_off13 v1 k0_t3) a + S1x256x128.size a ≤ S32x256x1024.size a := fun v1 k0_hw1 k0_t3 => k0_hw1.1.2.2.2.2.2.2.2.2.2.2.2.2.2.2.2.2.2.2.1 k0_t3
theorem k0_off14_inb : ∀ (v1 : BitVec 32) (k0_hw1 : k0_chk1 v1) (k0_t3 : Fin (k0_t3_loop v1).trips), ∀ a, (k0_off14 v1 k0_t3) a + S1x256x128.size a ≤ S32x256x1024.size a := fun v1 k0_hw1 k0_t3 => k0_hw1.1.2.2.2.2.2.2.2.2.2.2.2.2.2.2.2.2.2.2.2.1 k0_t3
theorem k0_off15_inb : ∀ (v1 : BitVec 32) (k0_hw1 : k0_chk1 v1) (k0_t3 : Fin (k0_t3_loop v1).trips), ∀ a, (k0_off15 v1 k0_t3) a + S1x256x128.size a ≤ S32x256x1024.size a := fun v1 k0_hw1 k0_t3 => k0_hw1.1.2.2.2.2.2.2.2.2.2.2.2.2.2.2.2.2.2.2.2.2.1 k0_t3
theorem k0_off16_inb : ∀ (v1 : BitVec 32) (k0_hw1 : k0_chk1 v1) (k0_t3 : Fin (k0_t3_loop v1).trips), ∀ a, (k0_off16 v1 k0_t3) a + S1x256x128.size a ≤ S32x256x1024.size a := fun v1 k0_hw1 k0_t3 => k0_hw1.1.2.2.2.2.2.2.2.2.2.2.2.2.2.2.2.2.2.2.2.2.2.1 k0_t3
theorem k0_off17_inb : ∀ (v1 : BitVec 32) (k0_hw1 : k0_chk1 v1) (k0_t3 : Fin (k0_t3_loop v1).trips), ∀ a, (k0_off17 v1 k0_t3) a + S1x256x128.size a ≤ S32x256x1024.size a := fun v1 k0_hw1 k0_t3 => k0_hw1.1.2.2.2.2.2.2.2.2.2.2.2.2.2.2.2.2.2.2.2.2.2.2.1 k0_t3
theorem k0_off18_inb : ∀ (v1 : BitVec 32) (k0_hw1 : k0_chk1 v1) (k0_t3 : Fin (k0_t3_loop v1).trips), ∀ a, (k0_off18 v1 k0_t3) a + S1x256x128.size a ≤ S32x256x1024.size a := fun v1 k0_hw1 k0_t3 => k0_hw1.1.2.2.2.2.2.2.2.2.2.2.2.2.2.2.2.2.2.2.2.2.2.2.2.1 k0_t3
theorem k0_off19_inb : ∀ (v1 : BitVec 32) (k0_hw1 : k0_chk1 v1) (k0_t3 : Fin (k0_t3_loop v1).trips), ∀ a, (k0_off19 v1 k0_t3) a + S1x1024x128.size a ≤ S1x32768x128.size a := fun v1 k0_hw1 k0_t3 => k0_hw1.1.2.2.2.2.2.2.2.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.1.2.2.2.2.2.2.2.2.2.2.2.2.2.2.2.2.2.2.2.2.2.2.2.2.2.1
theorem k0_mult5_dvd : ∀ (v1 : BitVec 32) (k0_hw1 : k0_chk1 v1) (k0_t4 : Fin (k0_t4_loop v1).trips), 1024 ∣ (k0_mult5 v1 k0_t4).toNat := fun v1 k0_hw1 k0_t4 => k0_hw1.1.2.2.2.2.2.2.2.2.2.2.2.2.2.2.2.2.2.2.2.2.2.2.2.2.2.2.1 k0_t4
theorem k0_off20_inb : ∀ (v1 : BitVec 32) (k0_hw1 : k0_chk1 v1) (k0_t4 : Fin (k0_t4_loop v1).trips), ∀ a, (k0_off20 v1 k0_t4) a + S1x256x128.size a ≤ S32x256x1024.size a := fun v1 k0_hw1 k0_t4 => k0_hw1.1.2.2.2.2.2.2.2.2.2.2.2.2.2.2.2.2.2.2.2.2.2.2.2.2.2.2.2.1 k0_t4
theorem k0_off21_inb : ∀ (v1 : BitVec 32) (k0_hw1 : k0_chk1 v1) (k0_t4 : Fin (k0_t4_loop v1).trips), ∀ a, (k0_off21 v1 k0_t4) a + S1x256x128.size a ≤ S32x256x1024.size a := fun v1 k0_hw1 k0_t4 => k0_hw1.1.2.2.2.2.2.2.2.2.2.2.2.2.2.2.2.2.2.2.2.2.2.2.2.2.2.2.2.2.1 k0_t4
theorem k0_off22_inb : ∀ (v1 : BitVec 32) (k0_hw1 : k0_chk1 v1) (k0_t4 : Fin (k0_t4_loop v1).trips), ∀ a, (k0_off22 v1 k0_t4) a + S1x256x128.size a ≤ S32x256x1024.size a := fun v1 k0_hw1 k0_t4 => k0_hw1.1.2.2.2.2.2.2.2.2.2.2.2.2.2.2.2.2.2.2.2.2.2.2.2.2.2.2.2.2.2.1 k0_t4
theorem k0_off23_inb : ∀ (v1 : BitVec 32) (k0_hw1 : k0_chk1 v1) (k0_t4 : Fin (k0_t4_loop v1).trips), ∀ a, (k0_off23 v1 k0_t4) a + S1x256x128.size a ≤ S32x256x1024.size a := fun v1 k0_hw1 k0_t4 => k0_hw1.1.2.2.2.2.2.2.2.2.2.2.2.2.2.2.2.2.2.2.2.2.2.2.2.2.2.2.2.2.2.2.1 k0_t4
theorem k0_off24_inb : ∀ (v1 : BitVec 32) (k0_hw1 : k0_chk1 v1) (k0_t4 : Fin (k0_t4_loop v1).trips), ∀ a, (k0_off24 v1 k0_t4) a + S1x256x128.size a ≤ S32x256x1024.size a := fun v1 k0_hw1 k0_t4 => k0_hw1.1.2.2.2.2.2.2.2.2.2.2.2.2.2.2.2.2.2.2.2.2.2.2.2.2.2.2.2.2.2.2.2 k0_t4
theorem k0_off25_inb : ∀ (v1 : BitVec 32) (k0_hw1 : k0_chk1 v1) (k0_t4 : Fin (k0_t4_loop v1).trips), ∀ a, (k0_off25 v1 k0_t4) a + S1x256x128.size a ≤ S32x256x1024.size a := fun v1 k0_hw1 k0_t4 => k0_hw1.2.1 k0_t4
theorem k0_off26_inb : ∀ (v1 : BitVec 32) (k0_hw1 : k0_chk1 v1) (k0_t4 : Fin (k0_t4_loop v1).trips), ∀ a, (k0_off26 v1 k0_t4) a + S1x256x128.size a ≤ S32x256x1024.size a := fun v1 k0_hw1 k0_t4 => k0_hw1.2.2.1 k0_t4
theorem k0_off27_inb : ∀ (v1 : BitVec 32) (k0_hw1 : k0_chk1 v1) (k0_t4 : Fin (k0_t4_loop v1).trips), ∀ a, (k0_off27 v1 k0_t4) a + S1x256x128.size a ≤ S32x256x1024.size a := fun v1 k0_hw1 k0_t4 => k0_hw1.2.2.2.1 k0_t4
theorem k0_off28_inb : ∀ (v1 : BitVec 32) (k0_hw1 : k0_chk1 v1) (k0_t4 : Fin (k0_t4_loop v1).trips), ∀ a, (k0_off28 v1 k0_t4) a + S1x1024x128.size a ≤ S1x32768x128.size a := fun v1 k0_hw1 k0_t4 => k0_hw1.2.2.2.2 k0_t4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "scale_log2e" => some (((Real.sqrt 128)⁻¹ * (Real.log 2)⁻¹ : ℝ) : EReal)
  | _ => none
-- ==== AttnRefIdeal.lean ====
abbrev S2 : Shape := ⟨1, ![2]⟩
abbrev S2x6144x128 : Shape := ⟨3, ![2, 6144, 128]⟩
abbrev S2x32768x128 : Shape := ⟨3, ![2, 32768, 128]⟩
abbrev S2x1x32768 : Shape := ⟨3, ![2, 1, 32768]⟩
abbrev S2x8x128 : Shape := ⟨3, ![2, 8, 128]⟩
abbrev S2x1x6144 : Shape := ⟨3, ![2, 1, 6144]⟩
abbrev S1 : Shape := ⟨1, ![1]⟩
abbrev S1x6144x128 : Shape := ⟨3, ![1, 6144, 128]⟩
abbrev S6144x128 : Shape := ⟨2, ![6144, 128]⟩
abbrev S1x32768x128 : Shape := ⟨3, ![1, 32768, 128]⟩
abbrev S32768x128 : Shape := ⟨2, ![32768, 128]⟩
abbrev S1x1x32768 : Shape := ⟨3, ![1, 1, 32768]⟩
abbrev S1x32768 : Shape := ⟨2, ![1, 32768]⟩
abbrev S1x1x128 : Shape := ⟨3, ![1, 1, 128]⟩
abbrev S1x128 : Shape := ⟨2, ![1, 128]⟩
abbrev S6144 : Shape := ⟨1, ![6144]⟩
abbrev S6144x1 : Shape := ⟨2, ![6144, 1]⟩
abbrev S6144x32768 : Shape := ⟨2, ![6144, 32768]⟩
abbrev S1x6144 : Shape := ⟨2, ![1, 6144]⟩
abbrev S1x1x6144 : Shape := ⟨3, ![1, 1, 6144]⟩

abbrev nBuf : Space → Nat
  | .hbm => 9
  | .vmem => 8
  | .smem => 1
  | _ => 0

abbrev bufTy : (tb : Table) → Fin (tcTables nBuf tb) → BufTy
  | .hbm, ⟨0, _⟩ => ⟨S2, .i32⟩
  | .hbm, ⟨1, _⟩ => ⟨S2x6144x128, .bf16⟩
  | .hbm, ⟨2, _⟩ => ⟨S2x32768x128, .fp8e4m3⟩
  | .hbm, ⟨3, _⟩ => ⟨S2x1x32768, .f32⟩
  | .hbm, ⟨4, _⟩ => ⟨S2x32768x128, .fp8e4m3⟩
  | .hbm, ⟨5, _⟩ => ⟨S2x8x128, .f32⟩
  | .hbm, ⟨6, _⟩ => ⟨S2x6144x128, .bf16⟩
  | .hbm, ⟨7, _⟩ => ⟨S2x6144x128, .fp8e4m3⟩
  | .hbm, ⟨8, _⟩ => ⟨S2x1x6144, .f32⟩
  | .local _ .vmem, ⟨0, _⟩ => ⟨S2x6144x128, .bf16⟩
  | .local _ .vmem, ⟨1, _⟩ => ⟨S2x32768x128, .fp8e4m3⟩
  | .local _ .vmem, ⟨2, _⟩ => ⟨S2x1x32768, .f32⟩
  | .local _ .vmem, ⟨3, _⟩ => ⟨S2x32768x128, .fp8e4m3⟩
  | .local _ .vmem, ⟨4, _⟩ => ⟨S2x8x128, .f32⟩
  | .local _ .vmem, ⟨5, _⟩ => ⟨S2x6144x128, .bf16⟩
  | .local _ .vmem, ⟨6, _⟩ => ⟨S2x6144x128, .fp8e4m3⟩
  | .local _ .vmem, ⟨7, _⟩ => ⟨S2x1x6144, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | "scale" => some (((Real.sqrt 128)⁻¹ : ℝ) : EReal)
  | _ => none

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x6144x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KI.Points.lean ====
module

public import proofs.«01_k».proof.Proof.Gen.AttnIdeal
public import Idealize.ShloMosaic.Lib.Pipeline.Kit

@[expose] public section

noncomputable section

namespace Cert.AttnIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 24), at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_reads cc0_transform_1 reads0_1 hreads0_1 0 (by decide) (by decide) (Pipeline.Window.sep_of_coord cc0_transform_1 0 0 (fun _ => rfl) (by decide)) (P := 24) (by decide) t : ∀ t : Fin grid0.N, Pipeline.Window.fetchOf grid0 false cc0_transform_1 t = true ↔ t.val % 24 = 0)
/-- Window 2 (operand 3 (%arg3)) is fetched at the points ≡ 0 (mod 24), at any contents of the tables (its index map reads none). -/
theorem fetch0_2 (a : (pcfg0 (F := F)).Adm) : ∀ t : Fin (cfg0 a).N, ((cfg0 a).win 2).fetch t = true ↔ t.val % 24 = 0 :=
  (fun t => Pipeline.Window.fetchOf_reads cc0_transform_2 reads0_2 hreads0_2 0 (by decide) (by decide) (Pipeline.Window.sep_of_coord cc0_transform_2 0 0 (fun _ => rfl) (by decide)) (P := 24) (by decide) t : ∀ t : Fin grid0.N, Pipeline.Window.fetchOf grid0 false cc0_transform_2 t = true ↔ t.val % 24 = 0)
/-- Window 3 (operand 4 (%arg4)) is fetched at the points ≡ 0 (mod 24), at any contents of the tables (its index map reads none). -/
theorem fetch0_3 (a : (pcfg0 (F := F)).Adm) : ∀ t : Fin (cfg0 a).N, ((cfg0 a).win 3).fetch t = true ↔ t.val % 24 = 0 :=
  (fun t => Pipeline.Window.fetchOf_reads cc0_transform_3 reads0_3 hreads0_3 0 (by decide) (by decide) (Pipeline.Window.sep_of_coord cc0_transform_3 0 0 (fun _ => rfl) (by decide)) (P := 24) (by decide) t : ∀ t : Fin grid0.N, Pipeline.Window.fetchOf grid0 false cc0_transform_3 t = true ↔ t.val % 24 = 0)
/-- Window 4 (operand 5 (%arg5)) is fetched at the points ≡ 0 (mod 24), at any contents of the tables (its index map reads none). -/
theorem fetch0_4 (a : (pcfg0 (F := F)).Adm) : ∀ t : Fin (cfg0 a).N, ((cfg0 a).win 4).fetch t = true ↔ t.val % 24 = 0 :=
  (fun t => Pipeline.Window.fetchOf_reads cc0_transform_4 reads0_4 hreads0_4 0 (by decide) (by decide) (Pipeline.Window.sep_of_coord cc0_transform_4 0 0 (fun _ => rfl) (by decide)) (P := 24) (by decide) t : ∀ t : Fin grid0.N, Pipeline.Window.fetchOf grid0 false cc0_transform_4 t = true ↔ t.val % 24 = 0)
/-- Window 5 (result 0 (%0#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%0#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%0#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.AttnIdeal.Gen

end
-- ==== Proof.KI.Runs.lean ====
module

public import proofs.«01_k».proof.Proof.Gen.AttnIdeal.Launch
public import proofs.«01_k».proof.Proof.Gen.AttnIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AttnIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

/-- One staging buffer of output window 5, through which its contents are stated (`View.read_writes_of_cover`: the
    choice does not matter). -/
abbrev VO0_5 : View sig .tc .vmem S1x256x128 .bf16 := (Memref.whole cc0_stg5_0 : Memref sig .tc .vmem S1x256x128 .bf16).view
/-- One staging buffer of output window 6, through which its contents are stated (`View.read_writes_of_cover`: the
    choice does not matter). -/
abbrev VO0_6 : View sig .tc .vmem S1x256x128 .fp8e4m3 := (Memref.whole cc0_stg6_0 : Memref sig .tc .vmem S1x256x128 .fp8e4m3).view
/-- One staging buffer of output window 7, through which its contents are stated (`View.read_writes_of_cover`: the
    choice does not matter). -/
abbrev VO0_7 : View sig .tc .vmem S1x1x256 .f32 := (Memref.whole cc0_stg7_0 : Memref sig .tc .vmem S1x1x256 .f32).view
/-- Each window's current staging memref at point `t`, spelled as the pipeline passes it (`bodyAt0`), and its wholeness. -/
abbrev ms0_0 (hO : Ok m) (t : Fin (cfgM m hO).N) : Memref sig .tc .vmem S1x256x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32768x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x32768x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S32x256x1024 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AttnIdeal.Gen

end
-- ==== Proof.KI.Words.lean ====
module

public import proofs.«01_k».proof.Proof.Gen.AttnIdeal.Skeleton
public import Idealize.ShloMosaic.Lib.LoopRemainder
public import Idealize.ShloMosaic.Lib.Routing.Words
public import Idealize.ShloMosaic.Lib.WholeRead

@[expose] public section

/-! The 32-bit words of the attention kernel: how many 1024-key blocks a sequence length has, how often each loop
runs, and where each load and store lies. -/

set_option maxRecDepth 16384

namespace Cert.AttnIdeal.Gen

open Idealize.ShloMosaic Idealize.SL.Sem

/-- The number of 1024-key blocks that hold the first `n` keys. -/
def nBlk (v1 : BitVec 32) : Nat := (v1.toNat + 1023) / 1024

/-- A sequence length the kernel is given: between 1 and 32768 keys. -/
def LenOk (v1 : BitVec 32) : Prop := 1 ≤ v1.toNat ∧ v1.toNat ≤ 32768

theorem LenOk.pos {v1 : BitVec 32} (h : LenOk v1) : 1 ≤ nBlk v1 := by unfold nBlk LenOk at *; omega
theorem LenOk.le {v1 : BitVec 32} (h : LenOk v1) : nBlk v1 ≤ 32 := by unfold nBlk LenOk at *; omega

/-- The kernel's count of blocks is the word of `nBlk`. -/
theorem word_v3 (v1 : BitVec 32) (h : LenOk v1) :
    Scalar.divsi (Scalar.addi v1 1023#32) 1024#32 = BitVec.ofNat 32 (nBlk v1) := by
  have e : Scalar.addi v1 1023#32 = BitVec.ofNat 32 (v1.toNat + 1023) := by
    unfold Scalar.addi IntOp.addi
    apply BitVec.eq_of_toNat_eq
    simp only [BitVec.toNat_add, BitVec.toNat_ofNat]
  rw [e]
  exact Routing.divsi_word .scalar (by unfold LenOk at h; omega) (by decide) (by decide)

theorem word_sub1 {n : Nat} (h1 : 1 ≤ n) (h2 : n ≤ 32) : Scalar.subi (BitVec.ofNat 32 n) 1#32 = BitVec.ofNat 32 (n - 1) := by
  unfold Scalar.subi IntOp.subi
  apply BitVec.eq_of_toNat_eq
  simp only [BitVec.toNat_sub, BitVec.toNat_ofNat]
  omega

theorem word_sub0 (x : BitVec 32) : Scalar.subi x 0#32 = x := by unfold Scalar.subi IntOp.subi; simp
theorem word_add0 (x : BitVec 32) : Scalar.addi 0#32 x = x := by unfold Scalar.addi IntOp.addi; simp

theorem word_iv (k : Nat) : Scf.iv 0#32 1#32 k = BitVec.ofNat 32 k := by unfold Scf.iv; simp

theorem word_mul1024 {k : Nat} (h : k < 32) : Scalar.muli (BitVec.ofNat 32 k) 1024#32 = BitVec.ofNat 32 (1024 * k) := by
  unfold Scalar.muli IntOp.muli
  apply BitVec.eq_of_toNat_eq
  simp only [BitVec.toNat_mul, BitVec.toNat_ofNat]
  omega

theorem trips_ofNat {n : Nat} (h : n ≤ 32) : Scf.trips 0#32 (BitVec.ofNat 32 n) 1#32 = n := by
  unfold Scf.trips
  have h1 : (1#32 : BitVec 32).toInt = 1 := by decide
  have h0 : (0#32 : BitVec 32).toInt = 0 := by decide
  have hn : (BitVec.ofNat 32 n).toInt = (n : Int) := by
    rw [BitVec.toInt_eq_toNat_cond, BitVec.toNat_ofNat]; split <;> omega
  rw [h1, h0, hn]; omega

theorem ok_ofNat {n : Nat} (h : n ≤ 32) : Scf.OK 0#32 (BitVec.ofNat 32 n) 1#32 := by
  unfold Scf.OK
  rw [trips_ofNat h]
  have h1 : (1#32 : BitVec 32).toInt = 1 := by decide
  have h0 : (0#32 : BitVec 32).toInt = 0 := by decide
  rw [h1, h0]; constructor <;> omega

theorem t1_loop_eq (v1 : BitVec 32) (h : LenOk v1) : k0_t1_loop v1 = ⟨0#32, BitVec.ofNat 32 (nBlk v1 - 1), 1#32⟩ := by
  unfold k0_t1_loop
  simp only [word_v3 v1 h, word_sub1 h.pos h.le, word_sub0, Scalar.muli_divsi_one, word_add0]

theorem t3_loop_eq (v1 : BitVec 32) (h : LenOk v1) : k0_t3_loop v1 = ⟨0#32, BitVec.ofNat 32 (nBlk v1), 1#32⟩ := by
  unfold k0_t3_loop
  simp only [word_v3 v1 h, word_sub0, Scalar.muli_divsi_one, word_add0]

/-- The score loop visits every block but the last. -/
theorem t1_trips (v1 : BitVec 32) (h : LenOk v1) : (k0_t1_loop v1).trips = nBlk v1 - 1 := by
  rw [t1_loop_eq v1 h]; exact trips_ofNat (by have := h.le; omega)
/-- The value loop visits every block. -/
theorem t3_trips (v1 : BitVec 32) (h : LenOk v1) : (k0_t3_loop v1).trips = nBlk v1 := by
  rw [t3_loop_eq v1 h]; exact trips_ofNat h.le

theorem t1_lt {v1 : BitVec 32} (h : LenOk v1) (k : Fin (k0_t1_loop v1).trips) : k.val < 31 :=
  Nat.lt_of_lt_of_le k.isLt (by rw [t1_trips v1 h]; have := h.le; omega)
theorem t3_lt {v1 : BitVec 32} (h : LenOk v1) (k : Fin (k0_t3_loop v1).trips) : k.val < 32 :=
  Nat.lt_of_lt_of_le k.isLt (by rw [t3_trips v1 h]; exact h.le)

theorem t2_no {v1 : BitVec 32} (k : Fin (k0_t2_loop v1).trips) : False := Scf.rem_no_trip _ _ k
theorem t4_no {v1 : BitVec 32} (k : Fin (k0_t4_loop v1).trips) : False := Scf.rem_no_trip _ _ k

theorem word_toNat {k : Nat} (h : k < 65536) : (Scalar.indexCast (BitVec.ofNat 32 k)).toNat = k := by
  unfold Scalar.indexCast
  simp only [BitVec.toNat_ofNat]; omega

theorem off2_eq {v1 : BitVec 32} {k : Fin (k0_t1_loop v1).trips} (h : k.val < 32) : k0_off2 v1 k = ![0, 1024 * k.val, 0] := by
  unfold k0_off2; simp only [word_iv, word_mul1024 h]; rw [word_toNat (by omega)]
theorem off3_eq {v1 : BitVec 32} {k : Fin (k0_t1_loop v1).trips} (h : k.val < 32) : k0_off3 v1 k = ![0, 0, 1024 * k.val] := by
  unfold k0_off3; simp only [word_iv, word_mul1024 h]; rw [word_toNat (by omega)]
theorem off4_eq {v1 : BitVec 32} {k : Fin (k0_t1_loop v1).trips} (h : k.val < 32) : k0_off4 v1 k = ![k.val, 0, 0] := by
  unfold k0_off4; simp only [word_iv]; rw [word_toNat (by omega)]
theorem off8_eq {v1 : BitVec 32} (h : LenOk v1) : k0_off8 v1 = ![0, 1024 * (nBlk v1 - 1), 0] := by
  have := h.le
  unfold k0_off8; simp only [word_v3 v1 h, word_sub1 h.pos h.le]; rw [word_mul1024 (by omega), word_toNat (by omega)]
theorem off9_eq {v1 : BitVec 32} (h : LenOk v1) : k0_off9 v1 = ![0, 0, 1024 * (nBlk v1 - 1)] := by
  have := h.le
  unfold k0_off9; simp only [word_v3 v1 h, word_sub1 h.pos h.le]; rw [word_mul1024 (by omega), word_toNat (by omega)]
theorem off10_eq {v1 : BitVec 32} (h : LenOk v1) : k0_off10 v1 = ![nBlk v1 - 1, 0, 0] := by
  have := h.le
  unfold k0_off10; simp only [word_v3 v1 h, word_sub1 h.pos h.le]; rw [word_toNat (by omega)]
theorem off11_eq {v1 : BitVec 32} {k : Fin (k0_t3_loop v1).trips} (h : k.val < 32) : k0_off11 v1 k = ![k.val, 0, 0] := by
  unfold k0_off11; simp only [word_iv]; rw [word_toNat (by omega)]
theorem off12_eq {v1 : BitVec 32} {k : Fin (k0_t3_loop v1).trips} (h : k.val < 32) : k0_off12 v1 k = ![k.val, 0, 128] := by
  unfold k0_off12; simp only [word_iv]; rw [word_toNat (by omega)]
theorem off13_eq {v1 : BitVec 32} {k : Fin (k0_t3_loop v1).trips} (h : k.val < 32) : k0_off13 v1 k = ![k.val, 0, 256] := by
  unfold k0_off13; simp only [word_iv]; rw [word_toNat (by omega)]
theorem off14_eq {v1 : BitVec 32} {k : Fin (k0_t3_loop v1).trips} (h : k.val < 32) : k0_off14 v1 k = ![k.val, 0, 384] := by
  unfold k0_off14; simp only [word_iv]; rw [word_toNat (by omega)]
theorem off15_eq {v1 : BitVec 32} {k : Fin (k0_t3_loop v1).trips} (h : k.val < 32) : k0_off15 v1 k = ![k.val, 0, 512] := by
  unfold k0_off15; simp only [word_iv]; rw [word_toNat (by omega)]
theorem off16_eq {v1 : BitVec 32} {k : Fin (k0_t3_loop v1).trips} (h : k.val < 32) : k0_off16 v1 k = ![k.val, 0, 640] := by
  unfold k0_off16; simp only [word_iv]; rw [word_toNat (by omega)]
theorem off17_eq {v1 : BitVec 32} {k : Fin (k0_t3_loop v1).trips} (h : k.val < 32) : k0_off17 v1 k = ![k.val, 0, 768] := by
  unfold k0_off17; simp only [word_iv]; rw [word_toNat (by omega)]
theorem off18_eq {v1 : BitVec 32} {k : Fin (k0_t3_loop v1).trips} (h : k.val < 32) : k0_off18 v1 k = ![k.val, 0, 896] := by
  unfold k0_off18; simp only [word_iv]; rw [word_toNat (by omega)]
theorem off19_eq {v1 : BitVec 32} {k : Fin (k0_t3_loop v1).trips} (h : k.val < 32) : k0_off19 v1 k = ![0, 1024 * k.val, 0] := by
  unfold k0_off19; simp only [word_iv, word_mul1024 h]; rw [word_toNat (by omega)]

theorem dvd_mul1024 {k : Nat} (h : k < 32) : 1024 ∣ (Scalar.muli (BitVec.ofNat 32 k) 1024#32).toNat := by
  rw [word_mul1024 h, BitVec.toNat_ofNat, Nat.mod_eq_of_lt (by omega)]; exact Dvd.intro _ rfl

/-- A load or store of a whole key block lies inside its array. -/
theorem inb3 {s t : Fin 3 → Nat} (o : Fin 3 → Nat) (h0 : o 0 + s 0 ≤ t 0) (h1 : o 1 + s 1 ≤ t 1) (h2 : o 2 + s 2 ≤ t 2) :
    ∀ a, o a + s a ≤ t a := fun a => match a with
  | ⟨0, _⟩ => h0
  | ⟨1, _⟩ => h1
  | ⟨2, _⟩ => h2

theorem inbK {n : Nat} (h : n < 32) : ∀ a, (![0, 1024 * n, 0] : Fin 3 → Nat) a + S1x1024x128.size a ≤ S1x32768x128.size a :=
  inb3 _ (Nat.le_of_ble_eq_true rfl) (show 1024 * n + 1024 ≤ 32768 by omega) (Nat.le_of_ble_eq_true rfl)
theorem inbS {n : Nat} (h : n < 32) : ∀ a, (![0, 0, 1024 * n] : Fin 3 → Nat) a + S1x1x1024.size a ≤ S1x1x32768.size a :=
  inb3 _ (Nat.le_of_ble_eq_true rfl) (Nat.le_of_ble_eq_true rfl) (show 1024 * n + 1024 ≤ 32768 by omega)
theorem inbT {n : Nat} (h : n < 32) : ∀ a, (![n, 0, 0] : Fin 3 → Nat) a + S1x256x1024.size a ≤ S32x256x1024.size a :=
  inb3 _ (show n + 1 ≤ 32 by omega) (Nat.le_of_ble_eq_true rfl) (Nat.le_of_ble_eq_true rfl)
theorem inbC {n : Nat} (h : n < 32) (c : Nat) (hc : c + 128 ≤ 1024) :
    ∀ a, (![n, 0, c] : Fin 3 → Nat) a + S1x256x128.size a ≤ S32x256x1024.size a :=
  inb3 _ (show n + 1 ≤ 32 by omega) (Nat.le_of_ble_eq_true rfl) (show c + 128 ≤ 1024 from hc)

/-- The side conditions the body assumes of the sequence length hold for every length between 1 and 32768. -/
theorem chk1_of_len (v1 : BitVec 32) (h : LenOk v1) : k0_chk1 v1 := by
  have l1 : ∀ k : Fin (k0_t1_loop v1).trips, k.val < 32 := fun k => lt_trans (t1_lt h k) (by decide)
  have l3 : ∀ k : Fin (k0_t3_loop v1).trips, k.val < 32 := fun k => t3_lt h k
  have lb : nBlk v1 - 1 < 32 := by have := h.le; omega
  have e1 : (k0_t1_loop v1).OK := by rw [t1_loop_eq v1 h]; exact ok_ofNat (by have := h.le; omega)
  have e3 : (k0_t3_loop v1).OK := by rw [t3_loop_eq v1 h]; exact ok_ofNat h.le
  unfold k0_chk1 k0_chk1_0 k0_chk1_1
  exact ⟨⟨e1, fun k => by unfold k0_mult1; simp only [word_iv]; exact dvd_mul1024 (l1 k),
    fun k => by rw [off2_eq (l1 k)]; exact inbK (l1 k), fun k => by rw [off3_eq (l1 k)]; exact inbS (l1 k),
    fun k => by rw [off4_eq (l1 k)]; exact inbT (l1 k),
    Scf.rem_ok _ _, fun k => (t2_no k).elim, fun k => (t2_no k).elim, fun k => (t2_no k).elim, fun k => (t2_no k).elim,
    by unfold k0_mult3; simp only [word_v3 v1 h, word_sub1 h.pos h.le]; exact dvd_mul1024 lb,
    by rw [off8_eq h]; exact inbK lb, by rw [off9_eq h]; exact inbS lb, by rw [off10_eq h]; exact inbT lb,
    e3, fun k => by unfold k0_mult4; simp only [word_iv]; exact dvd_mul1024 (l3 k),
    fun k => by rw [off11_eq (l3 k)]; exact inbC (l3 k) 0 (by decide), fun k => by rw [off12_eq (l3 k)]; exact inbC (l3 k) 128 (by decide),
    fun k => by rw [off13_eq (l3 k)]; exact inbC (l3 k) 256 (by decide), fun k => by rw [off14_eq (l3 k)]; exact inbC (l3 k) 384 (by decide),
    fun k => by rw [off15_eq (l3 k)]; exact inbC (l3 k) 512 (by decide), fun k => by rw [off16_eq (l3 k)]; exact inbC (l3 k) 640 (by decide),
    fun k => by rw [off17_eq (l3 k)]; exact inbC (l3 k) 768 (by decide), fun k => by rw [off18_eq (l3 k)]; exact inbC (l3 k) 896 (by decide),
    fun k => by rw [off19_eq (l3 k)]; exact inbK (l3 k),
    Scf.rem_ok _ _, fun k => (t4_no k).elim, fun k => (t4_no k).elim, fun k => (t4_no k).elim, fun k => (t4_no k).elim, fun k => (t4_no k).elim, fun k => (t4_no k).elim⟩,
    fun k => (t4_no k).elim, fun k => (t4_no k).elim, fun k => (t4_no k).elim, fun k => (t4_no k).elim⟩

end Cert.AttnIdeal.Gen
-- ==== Proof.KI.Fun.lean ====
module

public import proofs.«01_k».proof.Proof.KI.Words
public import Idealize.ShloMosaic.Lib.ValueIdxCore

@[expose] public section

/-! What one grid point of the attention kernel computes, as functions of its blocks and the sequence length: the
query codes and scales, the masked scores of each 1024-key block, the running row maximum, the row sums and the
accumulated values, and the output block. -/

set_option maxRecDepth 16384

noncomputable section

namespace Cert.AttnIdeal.Gen

open Idealize.ShloMosaic Idealize.ShloMosaic.ValueIdx Idealize.SL.Sem

variable {F : FTy → Type} [FloatOps F] [Named F]

/-- Rows `1024 k … 1024 k + 1023` of a key or value block. -/
def rowsK {e : EltTy} (x : Vec F S1x32768x128 e) (k : Nat) : Vec F S1x1024x128 e :=
  fun y => x (ix3 (0 : Fin 1) (⟨(1024 * k + (y 1).val) % 32768, Nat.mod_lt _ (by decide)⟩ : Fin 32768) (y 2 : Fin 128))
/-- Scales `1024 k … 1024 k + 1023` of the keys. -/
def colsS {e : EltTy} (x : Vec F S1x1x32768 e) (k : Nat) : Vec F S1x1x1024 e :=
  fun y => x (ix3 (0 : Fin 1) (0 : Fin 1) (⟨(1024 * k + (y 2).val) % 32768, Nat.mod_lt _ (by decide)⟩ : Fin 32768))
/-- Lanes `c … c + 127` of a block of scores. -/
def lanes {e : EltTy} (x : Vec F S1x256x1024 e) (c : Nat) : Vec F S1x256x128 e :=
  fun y => x (ix3 (0 : Fin 1) (y 1 : Fin 256) (⟨(c + (y 2).val) % 1024, Nat.mod_lt _ (by decide)⟩ : Fin 1024))
/-- The first of the eight equal rows of value scales. -/
def row0 {e : EltTy} (x : Vec F S1x8x128 e) : Vec F S1x1x128 e :=
  fun y => x (ix3 (0 : Fin 1) (0 : Fin 8) (y 2 : Fin 128))

variable (x0 : Vec F S1x256x128 .bf16) (x1 : Vec F S1x32768x128 .fp8e4m3) (x2 : Vec F S1x1x32768 .f32)
  (x3 : Vec F S1x32768x128 .fp8e4m3) (x4 : Vec F S1x8x128 .f32) (v1 : BitVec 32)

/-- The exponents of the query rows' scales. -/
def kExp : IVec S256x1 32 := k0_pay38 (k0_pay36 x0) (k0_pay37 x0)
/-- The query codes. -/
def kCodes : FVec F S1x256x128 .fp8e4m3 := k0_pay41 (k0_pay35 x0) (kExp x0)
/-- The query scales as they are stored. -/
def kScale : FVec F S1x1x256 .f32 := k0_pay43 (k0_pay42 (kExp x0))
/-- The factor each query row's scores are multiplied by, along the lanes. -/
def kMul : FVec F S256x128 .f32 := k0_pay44 (k0_pay40 (kExp x0))
/-- The word of the last key block's first key. -/
def kBase : BitVec 32 := Scalar.muli (Scalar.subi (Scalar.divsi (Scalar.addi v1 1023#32) 1024#32) 1#32) 1024#32

/-- The scores of key block `k`, unmasked. -/
def kT1 (k : Nat) : FVec F S1x256x1024 .f32 := k0_pay49 (kCodes x0) (rowsK x1 k) (colsS x2 k)
/-- The scores of the last key block, masked. -/
def kTl : FVec F S1x256x1024 .f32 :=
  k0_pay56 v1 (kBase v1) (k0_pay54 (kCodes x0)) (rowsK x1 (nBlk v1 - 1)) (colsS x2 (nBlk v1 - 1))
/-- The scores of key block `k`. -/
def kT (k : Nat) : FVec F S1x256x1024 .f32 := if k = nBlk v1 - 1 then kTl x0 x1 x2 v1 else kT1 x0 x1 x2 k
/-- The running maximum of each query row and lane before key block `k`. -/
def kM : Nat → FVec F S256x128 .f32
  | 0 => k0_pay45
  | k + 1 => k0_pay50 (kCodes x0) (rowsK x1 k) (colsS x2 k) (kM k)
/-- The maximum after the last block. -/
def kMl : FVec F S256x128 .f32 :=
  k0_pay57 v1 (kBase v1) (k0_pay54 (kCodes x0)) (rowsK x1 (nBlk v1 - 1)) (colsS x2 (nBlk v1 - 1)) (kM x0 x1 x2 (nBlk v1 - 1))
/-- What is subtracted from each query row's scaled scores. -/
def kOff : FVec F S256x128 .f32 := k0_pay59 (kMul x0) (k0_pay58 (kMl x0 x1 x2 v1))

/-- One block's contribution to the row sums. -/
def stepL (mul off l : FVec F S256x128 .f32) (t : FVec F S1x256x1024 .f32) : FVec F S256x128 .f32 :=
  k0_pay61 mul off (k0_pay15 mul off (k0_pay6 mul off l (lanes t 0) (lanes t 128) (lanes t 256))
    (lanes t 384) (lanes t 512) (lanes t 640) (lanes t 768)) (lanes t 896)
/-- One block's contribution to the accumulated values. -/
def stepA (mul off a : FVec F S256x128 .f32) (t : FVec F S1x256x1024 .f32) (v : Vec F S1x1024x128 .fp8e4m3) : FVec F S256x128 .f32 :=
  k0_pay62 mul off (k0_pay2 mul off (lanes t 0)) (k0_pay4 mul off (lanes t 128)) (k0_pay7 mul off (lanes t 256))
    (k0_pay9 mul off (lanes t 384)) (k0_pay11 mul off (lanes t 512)) (k0_pay13 mul off (lanes t 640))
    (k0_pay16 mul off (lanes t 768)) k0_pay17 (lanes t 896) a v

/-- The row sums per lane before key block `k`. -/
def kL : Nat → FVec F S256x128 .f32
  | 0 => k0_pay46
  | k + 1 => stepL (kMul x0) (kOff x0 x1 x2 v1) (kL k) (kT x0 x1 x2 v1 k)
/-- The accumulated values before key block `k`. -/
def kA : Nat → FVec F S256x128 .f32
  | 0 => k0_pay47
  | k + 1 => stepA (kMul x0) (kOff x0 x1 x2 v1) (kA k) (kT x0 x1 x2 v1 k) (rowsK x3 k)
theorem kL_succ (k : Nat) : kL x0 x1 x2 v1 (k + 1) = stepL (kMul x0) (kOff x0 x1 x2 v1) (kL x0 x1 x2 v1 k) (kT x0 x1 x2 v1 k) := rfl
theorem kA_succ (k : Nat) : kA x0 x1 x2 x3 v1 (k + 1) = stepA (kMul x0) (kOff x0 x1 x2 v1) (kA x0 x1 x2 x3 v1 k) (kT x0 x1 x2 v1 k) (rowsK x3 k) := rfl
/-- The output block. -/
def kOut : FVec F S1x256x128 .bf16 := k0_pay66 (kL x0 x1 x2 v1 (nBlk v1)) (kA x0 x1 x2 x3 v1 (nBlk v1)) (row0 x4)

/-- Block `k` of the score scratch reads `t`. -/
def BlockIs (d : Vec F S32x256x1024 .f32) (k : Nat) (t : Vec F S1x256x1024 .f32) : Prop :=
  ∀ (h : k < 32) (r : Fin 256) (c : Fin 1024), d (ix3 (⟨k, h⟩ : Fin 32) r c) = t (ix3 (0 : Fin 1) r c)

end Cert.AttnIdeal.Gen

end
-- ==== Proof.KI.Trip.lean ====
module

public import proofs.«01_k».proof.Proof.KI.Runs
public import proofs.«01_k».proof.Proof.KI.Fun

@[expose] public section

/-! One trip of each loop of the attention kernel, run: the score loop stores one block of scores and raises the running
maximum; the value loop adds one block to the row sums and to the accumulated values. -/

set_option maxRecDepth 16384

noncomputable section

namespace Cert.AttnIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Whole loads and stores, and loads of a block -/

section Rects
variable {s : Shape} {e : EltTy} {sp : CoreSpace} {m : Memref sig .tc sp s e}

theorem unit_idx_whole {off : Fin s.rank → Nat} (h0 : ∀ a, off a = 0) (hin : ∀ a, off a + s.size a ≤ s.size a)
    (x : s.Idx) : (Rect.unit (s := s) off s.size hin).toLoadRect.idx x = x := by
  funext a
  apply Fin.ext
  simp only [LoadRect.idx_apply]
  show off a + 1 * (x a).val = (x a).val
  rw [h0 a]; omega

/-- A whole load of a buffer held at the contents that read `X` is `X`. -/
theorem readAt_all (h : m.IsWhole) (X : s.Idx → Elt F e) {off : Fin s.rank → Nat} (h0 : ∀ a, off a = 0)
    (hin : ∀ a, off a + s.size a ≤ s.size a) :
    View.readAt (Elt F) m.view (Rect.unit (s := s) off s.size hin).toLoadRect (h.unread X) = X :=
  funext fun x => (h.readAt_unread X _ x).trans (congrArg X (unit_idx_whole h0 hin x))

/-- A whole store leaves the contents that read what was stored. -/
theorem writes_all (h : m.IsWhole) (f : m.view.ty.Contents (Elt F)) (w : s.Idx → Elt F e) {off : Fin s.rank → Nat} (h0 : ∀ a, off a = 0)
    (hin : ∀ a, off a + s.size a ≤ s.size a) (L : List (View.Piece (Elt F) s e)) :
    m.view.writes (Elt F) f ((⟨Rect.unit (s := s) off s.size hin, w⟩ : View.Piece (Elt F) s e) :: L) = h.unread w := by
  apply h.eq_unread
  funext y
  exact View.read_writes_cons_hit_of_coords m.view f (Rect.unit (s := s) off s.size hin) w L (show (Rect.unit (s := s) off s.size hin).shape.Idx from y) y
    (fun a => by
      show (y a).val = off a + 1 * (y a).val
      rw [h0 a]; omega)
end Rects

theorem zero2 : ∀ a : Fin 2, (![0, 0] : Fin 2 → Nat) a = 0 := by decide
theorem zero3 : ∀ a : Fin 3, (![0, 0, 0] : Fin 3 → Nat) a = 0 := by decide

theorem idx3_ext {n0 n1 n2 : Nat} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext d
  match d with
  | ⟨0, _⟩ => exact Fin.ext h0
  | ⟨1, _⟩ => exact Fin.ext h1
  | ⟨2, _⟩ => exact Fin.ext h2

/-- A load of rows `1024 k …` reads those rows. -/
theorem readAt_rows {e : EltTy} {sp : CoreSpace} {m : Memref sig .tc sp S1x32768x128 e} (h : m.IsWhole) (X : Vec F S1x32768x128 e)
    {off : Fin 3 → Nat} {k : Nat} (hk : k < 32) (ho : off = ![0, 1024 * k, 0])
    (hin : ∀ a, off a + S1x1024x128.size a ≤ S1x32768x128.size a) :
    View.readAt (Elt F) m.view (Rect.unit (s := S1x32768x128) off S1x1024x128.size hin).toLoadRect (h.unread X) = rowsK X k := by
  subst ho
  funext y
  refine (h.readAt_unread X _ y).trans (congrArg X (idx3_ext _ _ _ _ ?_ ?_ ?_))
  · show 0 + 1 * (y 0).val = 0
    have : (y 0).val < 1 := (y 0).isLt
    omega
  · show 1024 * k + 1 * (y 1).val = (1024 * k + (y 1).val) % 32768
    have : (y 1).val < 1024 := (y 1).isLt
    omega
  · show 0 + 1 * (y 2).val = (y 2).val
    omega

/-- A load of scales `1024 k …` reads those scales. -/
theorem readAt_cols {e : EltTy} {sp : CoreSpace} {m : Memref sig .tc sp S1x1x32768 e} (h : m.IsWhole) (X : Vec F S1x1x32768 e)
    {off : Fin 3 → Nat} {k : Nat} (hk : k < 32) (ho : off = ![0, 0, 1024 * k])
    (hin : ∀ a, off a + S1x1x1024.size a ≤ S1x1x32768.size a) :
    View.readAt (Elt F) m.view (Rect.unit (s := S1x1x32768) off S1x1x1024.size hin).toLoadRect (h.unread X) = colsS X k := by
  subst ho
  funext y
  refine (h.readAt_unread X _ y).trans (congrArg X (idx3_ext _ _ _ _ ?_ ?_ ?_))
  · show 0 + 1 * (y 0).val = 0
    have : (y 0).val < 1 := (y 0).isLt
    omega
  · show 0 + 1 * (y 1).val = 0
    have : (y 1).val < 1 := (y 1).isLt
    omega
  · show 1024 * k + 1 * (y 2).val = (1024 * k + (y 2).val) % 32768
    have : (y 2).val < 1024 := (y 2).isLt
    omega

/-- A load of the first row of value scales. -/
theorem readAt_row0 {e : EltTy} {sp : CoreSpace} {m : Memref sig .tc sp S1x8x128 e} (h : m.IsWhole) (X : Vec F S1x8x128 e)
    (hin : ∀ a, (![0, 0, 0] : Fin 3 → Nat) a + S1x1x128.size a ≤ S1x8x128.size a) :
    View.readAt (Elt F) m.view (Rect.unit (s := S1x8x128) ![0, 0, 0] S1x1x128.size hin).toLoadRect (h.unread X) = row0 X := by
  funext y
  refine (h.readAt_unread X _ y).trans (congrArg X (idx3_ext _ _ _ _ ?_ ?_ ?_))
  · show 0 + 1 * (y 0).val = 0
    have : (y 0).val < 1 := (y 0).isLt
    omega
  · show 0 + 1 * (y 1).val = 0
    have : (y 1).val < 1 := (y 1).isLt
    omega
  · show 0 + 1 * (y 2).val = (y 2).val
    omega

/-- A load of 128 lanes of a block of scores reads those lanes of what the block is. -/
theorem readAt_lanes {sp : CoreSpace} {m : Memref sig .tc sp S32x256x1024 .f32} (f : m.view.ty.Contents (Elt F))
    {off : Fin 3 → Nat} {k c : Nat} (hk : k < 32) (hc : c + 128 ≤ 1024) (ho : off = ![k, 0, c]) {t : Vec F S1x256x1024 .f32}
    (hf : BlockIs (m.view.read (Elt F) f) k t)
    (hin : ∀ a, off a + S1x256x128.size a ≤ S32x256x1024.size a) :
    View.readAt (Elt F) m.view (Rect.unit (s := S32x256x1024) off S1x256x128.size hin).toLoadRect f = lanes t c := by
  subst ho
  funext y
  have h2 : (y 2).val < 128 := (y 2).isLt
  have h0 : (y 0).val < 1 := (y 0).isLt
  refine Eq.trans (congrArg (m.view.read (Elt F) f) (idx3_ext _ (⟨k, hk⟩ : Fin 32) (y 1 : Fin 256) (⟨(c + (y 2).val) % 1024, Nat.mod_lt _ (by decide)⟩ : Fin 1024) ?_ ?_ ?_)) (hf hk _ _)
  · show k + 1 * (y 0).val = k
    omega
  · show 0 + 1 * (y 1).val = (y 1).val
    omega
  · show c + 1 * (y 2).val = (c + (y 2).val) % 1024
    omega

/-- A store of block `k` makes it the block stored. -/
theorem block_store {sp : CoreSpace} {m : Memref sig .tc sp S32x256x1024 .f32} (f : m.view.ty.Contents (Elt F))
    {off : Fin 3 → Nat} {k : Nat} (ho : off = ![k, 0, 0]) (t : Vec F S1x256x1024 .f32)
    (hin : ∀ a, off a + S1x256x1024.size a ≤ S32x256x1024.size a) :
    BlockIs (m.view.read (Elt F) (m.view.writes (Elt F) f [(⟨Rect.unit (s := S32x256x1024) off S1x256x1024.size hin, t⟩ : View.Piece (Elt F) S32x256x1024 .f32)])) k t := by
  subst ho
  intro h r c
  exact View.read_writes_cons_hit_of_coords m.view f (Rect.unit (s := S32x256x1024) ![k, 0, 0] S1x256x1024.size hin) t [] (ix3 (0 : Fin 1) r c)
    (ix3 (⟨k, h⟩ : Fin 32) r c) (fun a => by
      match a with
      | ⟨0, _⟩ => show k = k + 1 * 0; omega
      | ⟨1, _⟩ => show r.val = 0 + 1 * r.val; omega
      | ⟨2, _⟩ => show c.val = 0 + 1 * c.val; omega)

/-- A store of block `k` leaves every other block. -/
theorem block_keep {sp : CoreSpace} {m : Memref sig .tc sp S32x256x1024 .f32} (f : m.view.ty.Contents (Elt F))
    {off : Fin 3 → Nat} {k j : Nat} (hj : j ≠ k) (ho : off = ![k, 0, 0]) (w t : Vec F S1x256x1024 .f32)
    (hin : ∀ a, off a + S1x256x1024.size a ≤ S32x256x1024.size a) (hf : BlockIs (m.view.read (Elt F) f) j t) :
    BlockIs (m.view.read (Elt F) (m.view.writes (Elt F) f [(⟨Rect.unit (s := S32x256x1024) off S1x256x1024.size hin, w⟩ : View.Piece (Elt F) S32x256x1024 .f32)])) j t := by
  subst ho
  intro h r c
  refine Eq.trans (View.read_writes_cons_miss_of_axis m.view f (⟨Rect.unit (s := S32x256x1024) ![k, 0, 0] S1x256x1024.size hin, w⟩ : View.Piece (Elt F) S32x256x1024 .f32) []
    (ix3 (⟨j, h⟩ : Fin 32) r c) (0 : Fin 3) k 1 rfl rfl rfl ?_) (hf h r c)
  show j < k ∨ k + 1 ≤ j
  omega

end Cert.AttnIdeal.Gen

end
-- ==== Proof.KI.Body1.lean ====
module

public import proofs.«01_k».proof.Proof.KI.Trip

@[expose] public section

set_option maxRecDepth 16384

noncomputable section

namespace Cert.AttnIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The loops' invariants and one trip of each -/

/-- Before trip `k` of the score loop: the query codes, keys and scales as they were, the first `k` blocks of scores
    stored, the running maximum over them. -/
def inv1 (c : Dev nD) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (k : Nat) (_ : BitVec 32) : sProp 𝕄 :=
  iprop((arg4.view.loc (c : Thread nD τ) ↦[arg4.view.set]{fullShare} harg4.unread x1) ∗ (arg5.view.loc (c : Thread nD τ) ↦[arg5.view.set]{fullShare} harg5.unread x2) ∗ (arg9.view.loc (c : Thread nD τ) ↦[arg9.view.set]{fullShare} harg9.unread (kCodes x0))
    ∗ (∃ f, (arg11.view.loc (c : Thread nD τ) ↦[arg11.view.set]{fullShare} f) ∗ ⌜∀ j, j < k → BlockIs (arg11.view.read (Elt F) f) j (kT1 x0 x1 x2 j)⌝) ∗ (arg12.view.loc (c : Thread nD τ) ↦[arg12.view.set]{fullShare} harg12.unread (kM x0 x1 x2 k)))

set_option maxHeartbeats 1000000 in
theorem trip1 (c : Dev nD) (i : grid0.Coords) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (v1 : BitVec 32) (hw : k0_chk1 v1) (hl : LenOk v1)
    (v3 : BitVec 32) (v93 : FVec F S256x1 .f32) (v127 : FVec F S1x256 .f32) (E : Set ℕ) (k : Fin (k0_t1_loop v1).trips) (acc : BitVec 32) :
    inv1 c arg2 harg2 arg3 harg3 arg4 harg4 arg5 harg5 arg6 harg6 arg7 harg7 arg8 harg8 arg9 harg9 arg10 harg10 arg11 harg11 arg12 harg12 arg13 harg13 arg14 harg14 x0 x1 x2 k.val acc
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 hw v3 v93 v127 k acc)
        (inv1 c arg2 harg2 arg3 harg3 arg4 harg4 arg5 harg5 arg6 harg6 arg7 harg7 arg8 harg8 arg9 harg9 arg10 harg10 arg11 harg11 arg12 harg12 arg13 harg13 arg14 harg14 x0 x1 x2 (k.val + 1)) := by
  unfold k0_t1_body
  unfold inv1
  iintro ⟨H4, H5, H9, ⟨%f, H11, %hf⟩, H12⟩
  sl_exec
  sl_step
  isplitl [H4]; · iexact H4
  isplitl [H5]; · iexact H5
  isplitl [H9]; · iexact H9
  have hk : k.val < 32 := Nat.lt_succ_of_lt (t1_lt hl k)
  simp only [readAt_all harg9 (kCodes x0) zero3, readAt_rows harg4 x1 hk (off2_eq hk), readAt_cols harg5 x2 hk (off3_eq hk),
    readAt_all harg12 (kM x0 x1 x2 k.val) zero2, writes_all harg12 _ _ zero2]
  isplitl [H11]
  · iexists _
    isplitl [H11]; · iexact H11
    ipureintro
    intro j hj
    rcases Nat.lt_succ_iff_lt_or_eq.mp hj with h | h
    · exact block_keep f (Nat.ne_of_lt h) (off4_eq hk) _ _ _ (hf j h)
    · subst h
      exact block_store f (off4_eq hk) _ _
  · iexact H12

end Cert.AttnIdeal.Gen

end
-- ==== Proof.KI.Body3.lean ====
module

public import proofs.«01_k».proof.Proof.KI.Trip

@[expose] public section

set_option maxRecDepth 16384

noncomputable section

namespace Cert.AttnIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Before trip `k` of the value loop: the values, the scores and what is subtracted from them as they were, the row sums
    and accumulated values of the first `k` blocks. -/
def inv3 (c : Dev nD) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3) (v1 : BitVec 32)
    (k : Nat) (_ : BitVec 32) : sProp 𝕄 :=
  iprop((arg6.view.loc (c : Thread nD τ) ↦[arg6.view.set]{fullShare} harg6.unread x3) ∗ (∃ f, (arg11.view.loc (c : Thread nD τ) ↦[arg11.view.set]{fullShare} f) ∗ ⌜∀ j, j < nBlk v1 → BlockIs (arg11.view.read (Elt F) f) j (kT x0 x1 x2 v1 j)⌝)
    ∗ (arg12.view.loc (c : Thread nD τ) ↦[arg12.view.set]{fullShare} harg12.unread (kOff x0 x1 x2 v1)) ∗ (arg13.view.loc (c : Thread nD τ) ↦[arg13.view.set]{fullShare} harg13.unread (kL x0 x1 x2 v1 k)) ∗ (arg14.view.loc (c : Thread nD τ) ↦[arg14.view.set]{fullShare} harg14.unread (kA x0 x1 x2 x3 v1 k)))

set_option maxHeartbeats 2000000 in
theorem trip3 (c : Dev nD) (i : grid0.Coords) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3)
    (v1 : BitVec 32) (hw : k0_chk1 v1) (hl : LenOk v1)
    (mul : FVec F S256x128 .f32) (hm : mul = kMul x0) (E : Set ℕ) (k : Fin (k0_t3_loop v1).trips) (acc : BitVec 32) :
    inv3 c arg2 harg2 arg3 harg3 arg4 harg4 arg5 harg5 arg6 harg6 arg7 harg7 arg8 harg8 arg9 harg9 arg10 harg10 arg11 harg11 arg12 harg12 arg13 harg13 arg14 harg14 x0 x1 x2 x3 v1 k.val acc
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 v1 hw mul k acc)
        (inv3 c arg2 harg2 arg3 harg3 arg4 harg4 arg5 harg5 arg6 harg6 arg7 harg7 arg8 harg8 arg9 harg9 arg10 harg10 arg11 harg11 arg12 harg12 arg13 harg13 arg14 harg14 x0 x1 x2 x3 v1 (k.val + 1)) := by
  subst hm
  have hk : k.val < 32 := t3_lt hl k
  unfold k0_t3_body
  simp only [k0_part1_eq_skeleton, k0_part2_eq_skeleton]
  unfold inv3
  iintro ⟨H6, ⟨%f, H11, %hf⟩, H12, H13, H14⟩
  sl_exec
  sl_step
  have hb := hf k.val (Nat.lt_of_lt_of_eq k.isLt (t3_trips v1 hl))
  isplitl [H6]; · iexact H6
  isplitl [H11]
  · iexists f
    isplitl [H11]; · iexact H11
    ipureintro; exact hf
  isplitl [H12]; · iexact H12
  delta trip3.sl.r trip3.sl.r_1 trip3.sl.r_2 trip3.sl.r_3 trip3.sl.r_4 trip3.sl.r_5 trip3.sl.r_6 trip3.sl.r_7 trip3.sl.r_8 trip3.sl.r_9
  simp only [readAt_all harg12 (kOff x0 x1 x2 v1) zero2, readAt_rows harg6 x3 hk (off19_eq hk),
    readAt_lanes f hk (by decide) (off11_eq hk) hb, readAt_lanes f hk (by decide) (off12_eq hk) hb, readAt_lanes f hk (by decide) (off13_eq hk) hb,
    readAt_lanes f hk (by decide) (off14_eq hk) hb, readAt_lanes f hk (by decide) (off15_eq hk) hb, readAt_lanes f hk (by decide) (off16_eq hk) hb,
    readAt_lanes f hk (by decide) (off17_eq hk) hb, readAt_lanes f hk (by decide) (off18_eq hk) hb,
    readAt_all harg13 (kL x0 x1 x2 v1 k.val) zero2, writes_all harg13 _ _ zero2,
    readAt_all harg14 (kA x0 x1 x2 x3 v1 k.val) zero2, writes_all harg14 _ _ zero2]
  simp only [kL_succ, kA_succ, stepL, stepA]
  isplitl [H13]
  · iexact H13
  · iexact H14

end Cert.AttnIdeal.Gen

end
-- ==== Proof.KI.Body.lean ====
module

public import proofs.«01_k».proof.Proof.KI.Body1
public import proofs.«01_k».proof.Proof.KI.Body3
public import Idealize.ShloMosaic.Lib.LoopRemainder
public import Idealize.ShloMosaic.Lib.VecWindow

@[expose] public section

/-! The whole body of one grid point of the attention kernel, run. -/

set_option maxRecDepth 16384

noncomputable section

namespace Cert.AttnIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The sequence length a grid point reads from the prefetched table. -/
def ptWord (c : Dev nD) (i : grid0.Coords) (xt0 : TbBuf0 (F := F) c tbM0_0) : BitVec 32 :=
  tbM0_0.view.readAt (Elt F) (Rect.unit (s := S2) (k0_off1 i) S1.size (k0_off1_inb i)).toLoadRect xt0 (Shape.Idx.first (numel1_S1.symm ▸ Nat.one_pos))

set_option maxHeartbeats 4000000 in
/-- The body of one grid point, run: inputs as they were, the three outputs at what the functions of the inputs say. -/
theorem bodyRun (c : Dev nD) (i : grid0.Coords) (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3)
    (x4 : Vec F S1x8x128 .f32) (xt0 : TbBuf0 (F := F) c tbM0_0) (hl : LenOk (ptWord c i xt0)) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (kOut x0 x1 x2 x3 x4 (ptWord c i xt0)) ∗ owns (c : Thread nD τ) arg9 fullShare (kCodes x0) ∗ owns (c : Thread nD τ) arg10 fullShare (kScale x0)
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
      ⊢ wp frame (wpE (defs₀ (F := F)) Variants.none c none) E (cc0_attn i tbM0_0 htbM0_0 arg3 harg3 arg4 harg4 arg5 harg5 arg6 harg6 arg7 harg7 arg8 harg8 arg9 harg9 arg10 harg10 arg11 harg11 arg12 harg12 arg13 harg13 arg14 harg14) K := by
  have k0_hw1 := chk1_of_len _ hl
  unfold ptWord at k0_hw1
  simp only [cc0_attn_eq_skeleton]; unfold cc0_attn_skel
  simp only [k0_part10_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact k0_hw1)
  sl_for (fun k (_ : BitVec 32) => iprop((arg4.view.loc (c : Thread nD τ) ↦[arg4.view.set]{fullShare} harg4.unread x1) ∗ (arg5.view.loc (c : Thread nD τ) ↦[arg5.view.set]{fullShare} harg5.unread x2) ∗ (arg9.view.loc (c : Thread nD τ) ↦[arg9.view.set]{fullShare} harg9.unread (kCodes x0))
    ∗ (∃ f, (arg11.view.loc (c : Thread nD τ) ↦[arg11.view.set]{fullShare} f) ∗ ⌜∀ j, j < k → BlockIs (arg11.view.read (Elt F) f) j (kT1 x0 x1 x2 j)⌝) ∗ (arg12.view.loc (c : Thread nD τ) ↦[arg12.view.set]{fullShare} harg12.unread (kM x0 x1 x2 k)))) $$ [H1 H2 H6 HS0 HS1]
  case region =>
    intro k a
    exact trip1 c i tbM0_0 htbM0_0 arg3 harg3 arg4 harg4 arg5 harg5 arg6 harg6 arg7 harg7 arg8 harg8 arg9 harg9 arg10 harg10 arg11 harg11 arg12 harg12 arg13 harg13 arg14 harg14 x0 x1 x2 (ptWord c i xt0) k0_hw1 hl _ _ _ E k a
  · have e3 := readAt_all harg3 x0 zero3 inb_S1x256x128_S1x256x128_0_0_0
    have e109 : bodyRun.sl.v109 c arg3 harg3 x0 = kCodes x0 :=
      (show bodyRun.sl.v109 c arg3 harg3 x0 = k0_pay41 (k0_pay35 (View.readAt (Elt F) arg3.view (Rect.unit (s := S1x256x128) ![0, 0, 0] S1x256x128.size inb_S1x256x128_S1x256x128_0_0_0).toLoadRect (harg3.unread x0))) (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0)))) from rfl).trans (by rw [e3]; rfl)
    have e6 : arg9.view.writes (Elt F) arg9.view.junk (bodyRun.sl.H6_1 c arg3 harg3 x0) = harg9.unread (kCodes x0) :=
      (writes_all harg9 _ _ zero3 _ _).trans (congrArg harg9.unread e109)
    have e12 : arg12.view.writes (Elt F) arg12.view.junk (bodyRun.sl.HS1_1 (F := F)) = harg12.unread (kM x0 x1 x2 0) := writes_all harg12 _ _ zero2 _ _
    rw [e6, e12]
    isplitl [H1]; · iexact H1
    isplitl [H2]; · iexact H2
    isplitl [H6]; · iexact H6
    isplitl [HS0]
    · iexists _
      isplitl [HS0]; · iexact HS0
      ipureintro
      intro j hj
      exact absurd hj (Nat.not_lt_zero j)
    · iexact HS1
  · iintro %a ⟨H1, H2, H6, ⟨%f, HS0, %hf⟩, HS1⟩
    sl_exec (disch := first | sl_exact k0_hw1)
    have e3 := readAt_all harg3 x0 zero3 inb_S1x256x128_S1x256x128_0_0_0
    have e9 := readAt_all harg9 (kCodes x0) zero3 inb_S1x256x128_S1x256x128_0_0_0
    have hb : nBlk (ptWord c i xt0) - 1 < 32 := by have := hl.le; omega
    have e4 := readAt_rows harg4 x1 hb (off8_eq hl) (k0_off8_inb (ptWord c i xt0) k0_hw1)
    have e5 := readAt_cols harg5 x2 hb (off9_eq hl) (k0_off9_inb (ptWord c i xt0) k0_hw1)
    have ht : (k0_t1_loop (ptWord c i xt0)).trips = nBlk (ptWord c i xt0) - 1 := t1_trips _ hl
    have hm : bodyRun.sl.r_1 c arg3 harg3 x0 = kMul x0 :=
      (show bodyRun.sl.r_1 c arg3 harg3 x0 = k0_pay44 (k0_pay40 (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0))))) from rfl).trans (by rw [e3]; rfl)
    have e181 : bodyRun.sl.v181 c i arg4 harg4 arg5 harg5 arg9 harg9 x0 x1 x2 xt0 k0_hw1 = kTl x0 x1 x2 (ptWord c i xt0) :=
      (show bodyRun.sl.v181 c i arg4 harg4 arg5 harg5 arg9 harg9 x0 x1 x2 xt0 k0_hw1 = k0_pay56 (ptWord c i xt0) (kBase (ptWord c i xt0)) (k0_pay54 (View.readAt (Elt F) arg9.view (Rect.unit (s := S1x256x128) ![0, 0, 0] S1x256x128.size inb_S1x256x128_S1x256x128_0_0_0).toLoadRect (harg9.unread (kCodes x0)))) (View.readAt (Elt F) arg4.view (Rect.unit (s := S1x32768x128) (k0_off8 (ptWord c i xt0)) S1x1024x128.size (k0_off8_inb (ptWord c i xt0) k0_hw1)).toLoadRect (harg4.unread x1)) (View.readAt (Elt F) arg5.view (Rect.unit (s := S1x1x32768) (k0_off9 (ptWord c i xt0)) S1x1x1024.size (k0_off9_inb (ptWord c i xt0) k0_hw1)).toLoadRect (harg5.unread x2)) from rfl).trans (by rw [e9, e4, e5]; rfl)
    have e201 : bodyRun.sl.v201 c i arg4 harg4 arg5 harg5 arg9 harg9 arg12 harg12 x0 x1 x2 xt0 k0_hw1 = kMl x0 x1 x2 (ptWord c i xt0) :=
      (show bodyRun.sl.v201 c i arg4 harg4 arg5 harg5 arg9 harg9 arg12 harg12 x0 x1 x2 xt0 k0_hw1 = k0_pay57 (ptWord c i xt0) (kBase (ptWord c i xt0)) (k0_pay54 (View.readAt (Elt F) arg9.view (Rect.unit (s := S1x256x128) ![0, 0, 0] S1x256x128.size inb_S1x256x128_S1x256x128_0_0_0).toLoadRect (harg9.unread (kCodes x0)))) (View.readAt (Elt F) arg4.view (Rect.unit (s := S1x32768x128) (k0_off8 (ptWord c i xt0)) S1x1024x128.size (k0_off8_inb (ptWord c i xt0) k0_hw1)).toLoadRect (harg4.unread x1)) (View.readAt (Elt F) arg5.view (Rect.unit (s := S1x1x32768) (k0_off9 (ptWord c i xt0)) S1x1x1024.size (k0_off9_inb (ptWord c i xt0) k0_hw1)).toLoadRect (harg5.unread x2)) (View.readAt (Elt F) arg12.view (Rect.unit (s := S256x128) ![0, 0] S256x128.size inb_S256x128_S256x128_0_0).toLoadRect (harg12.unread (kM x0 x1 x2 (k0_t1_loop (ptWord c i xt0)).trips))) from rfl).trans
        (by rw [readAt_all harg12 _ zero2, e9, e4, e5, ht]; rfl)
    have e204 : bodyRun.sl.v204 c i arg4 harg4 arg5 harg5 arg9 harg9 arg12 harg12 x0 x1 x2 xt0 k0_hw1 = k0_pay58 (kMl x0 x1 x2 (ptWord c i xt0)) :=
      (show bodyRun.sl.v204 c i arg4 harg4 arg5 harg5 arg9 harg9 arg12 harg12 x0 x1 x2 xt0 k0_hw1 = k0_pay58 (arg12.view.readCov (bodyRun.sl.HS1_1_1 c i arg4 harg4 arg5 harg5 arg9 harg9 arg12 harg12 x0 x1 x2 xt0 k0_hw1) (Rect.unit (s := S256x128) ![0, 0] S256x128.size inb_S256x128_S256x128_0_0).toLoadRect) from rfl).trans
        (congrArg k0_pay58 ((View.readCov_full arg12.view inb_S256x128_S256x128_0_0 inb_S256x128_S256x128_0_0 _ []).trans e201))
    have e12 : arg12.view.writes (Elt F) arg12.view.junk (bodyRun.sl.HS1_2 c i arg3 harg3 arg4 harg4 arg5 harg5 arg9 harg9 arg12 harg12 x0 x1 x2 xt0 k0_hw1)
        = harg12.unread (kOff x0 x1 x2 (ptWord c i xt0)) :=
      (writes_all harg12 _ _ zero2 _ _).trans (congrArg harg12.unread (by rw [hm, e204]; rfl))
    have e13 : arg13.view.writes (Elt F) arg13.view.junk (bodyRun.sl.HS2_1 (F := F)) = harg13.unread (kL x0 x1 x2 (ptWord c i xt0) 0) := writes_all harg13 _ _ zero2 _ _
    have e14 : arg14.view.writes (Elt F) arg14.view.junk (bodyRun.sl.HS3_1 (F := F)) = harg14.unread (kA x0 x1 x2 x3 (ptWord c i xt0) 0) := writes_all harg14 _ _ zero2 _ _
    have e127 : bodyRun.sl.v127 c arg3 harg3 x0 = k0_pay42 (kExp x0) :=
      (show bodyRun.sl.v127 c arg3 harg3 x0 = k0_pay42 (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0)))) from rfl).trans (by rw [e3]; rfl)
    have e10 : arg10.view.writes (Elt F) arg10.view.junk (bodyRun.sl.H7_1 c arg3 harg3 x0) = harg10.unread (kScale x0) :=
      (writes_all harg10 _ _ zero3 _ _).trans (congrArg harg10.unread (by rw [e127]; rfl))
    sl_for (fun k (_ : BitVec 32) => iprop((arg6.view.loc (c : Thread nD τ) ↦[arg6.view.set]{fullShare} harg6.unread x3) ∗ (∃ f, (arg11.view.loc (c : Thread nD τ) ↦[arg11.view.set]{fullShare} f) ∗ ⌜∀ j, j < nBlk (ptWord c i xt0) → BlockIs (arg11.view.read (Elt F) f) j (kT x0 x1 x2 (ptWord c i xt0) j)⌝)
    ∗ (arg12.view.loc (c : Thread nD τ) ↦[arg12.view.set]{fullShare} harg12.unread (kOff x0 x1 x2 (ptWord c i xt0))) ∗ (arg13.view.loc (c : Thread nD τ) ↦[arg13.view.set]{fullShare} harg13.unread (kL x0 x1 x2 (ptWord c i xt0) k)) ∗ (arg14.view.loc (c : Thread nD τ) ↦[arg14.view.set]{fullShare} harg14.unread (kA x0 x1 x2 x3 (ptWord c i xt0) k)))) $$ [H3 HS0 HS1 HS2 HS3]
    case region =>
      intro k a
      exact trip3 c i tbM0_0 htbM0_0 arg3 harg3 arg4 harg4 arg5 harg5 arg6 harg6 arg7 harg7 arg8 harg8 arg9 harg9 arg10 harg10 arg11 harg11 arg12 harg12 arg13 harg13 arg14 harg14 x0 x1 x2 x3 (ptWord c i xt0) k0_hw1 hl _ hm E k a
    · rw [e12, e13, e14, e181]
      isplitl [H3]; · iexact H3
      isplitl [HS0]
      · iexists _
        isplitl [HS0]; · iexact HS0
        ipureintro
        intro j hj
        by_cases h : j = nBlk (ptWord c i xt0) - 1
        · subst h
          have := block_store f (off10_eq hl) (kTl x0 x1 x2 (ptWord c i xt0)) (k0_off10_inb (ptWord c i xt0) k0_hw1)
          unfold kT; rw [if_pos rfl]; exact this
        · unfold kT; rw [if_neg h]
          exact block_keep f h (off10_eq hl) _ _ _ (hf j (show j < (k0_t1_loop (ptWord c i xt0)).trips from (by rw [ht]; omega)))
      isplitl [HS1]; · iexact HS1
      isplitl [HS2]; · iexact HS2
      · iexact HS3
    · iintro %a3 ⟨H3, ⟨%f', HS0, %hf'⟩, HS1, HS2, HS3⟩
      sl_exec
      sl_step
      have h3t : (k0_t3_loop (ptWord c i xt0)).trips = nBlk (ptWord c i xt0) := t3_trips _ hl
      have eo : bodyRun.sl.r_3 c i arg7 harg7 arg13 harg13 arg14 harg14 x0 x1 x2 x3 x4 xt0 = kOut x0 x1 x2 x3 x4 (ptWord c i xt0) :=
        (show bodyRun.sl.r_3 c i arg7 harg7 arg13 harg13 arg14 harg14 x0 x1 x2 x3 x4 xt0 = k0_pay66 (View.readAt (Elt F) arg13.view (Rect.unit (s := S256x128) ![0, 0] S256x128.size inb_S256x128_S256x128_0_0).toLoadRect (harg13.unread (kL x0 x1 x2 (ptWord c i xt0) (k0_t3_loop (ptWord c i xt0)).trips))) (View.readAt (Elt F) arg14.view (Rect.unit (s := S256x128) ![0, 0] S256x128.size inb_S256x128_S256x128_0_0).toLoadRect (harg14.unread (kA x0 x1 x2 x3 (ptWord c i xt0) (k0_t3_loop (ptWord c i xt0)).trips))) (View.readAt (Elt F) arg7.view (Rect.unit (s := S1x8x128) ![0, 0, 0] S1x1x128.size inb_S1x8x128_S1x1x128_0_0_0).toLoadRect (harg7.unread x4)) from rfl).trans
          (by rw [readAt_all harg13 _ zero2, readAt_all harg14 _ zero2, readAt_row0 harg7 x4, h3t]; rfl)
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; swap; · iexact H5
        ipureintro
        exact (congrArg (arg8.view.read (Elt F)) (writes_all harg8 f5 _ zero3 inb_S1x256x128_S1x256x128_0_0_0 [])).trans ((harg8.read_unread _).trans eo)
      isplitl [H6]
      · iexists _; isplitr; · ipureintro; exact harg9.read_unread _
        iexact H6
      isplitl [H7]
      · iexists _; isplitr; swap; · iexact H7
        ipureintro
        exact (congrArg (arg10.view.read (Elt F)) e10).trans (harg10.read_unread _)
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0

end Cert.AttnIdeal.Gen

end
-- ==== Proof.KI.Frame.lean ====
module

public import proofs.«01_k».proof.Proof.KI.Body
public import Idealize.ShloMosaic.Lib.Claim

@[expose] public section

/-! The run of the attention kernel from any memory whose sequence lengths are in range: the proof data, the body
obligation, the run and the frame. -/

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The sequence length every grid point reads is at least 1 and at most 32768. -/
def LensOk : Prop := ∀ (c : Dev nD) (t : Fin grid0.N), LenOk (ptWord (F := F) c (grid0.coords t) (tbl m 0))

/-! ## What the outputs hold after each point -/

/-- What the outputs' staging buffers hold after the body at point `t` (in window order): the functions of the point's input
    blocks and sequence length. -/
def outsAt0 (hO : Ok m) (c : Dev nD) (t : Fin (cfgM m hO).N) : Vec F S1x256x128 .bf16 × Vec F S1x256x128 .fp8e4m3 × Vec F S1x1x256 .f32 :=
  (kOut (iblk m hO c 0 t) (iblk m hO c 1 t) (iblk m hO c 2 t) (iblk m hO c 3 t) (iblk m hO c 4 t) (ptWord (F := F) c (grid0.coords t) (tbl m 0)),
    kCodes (iblk m hO c 0 t), kScale (iblk m hO c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : LensOk m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : LensOk m) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : LensOk m) (c : Dev nD) (t : Fin (cfgM m hO).N) : (dats m hO hH 0 c).after 0 t = iblk m hO c 0 t := by dsimp only [dats]; try rfl
theorem after0_1 (hO : Ok m) (hH : LensOk m) (c : Dev nD) (t : Fin (cfgM m hO).N) : (dats m hO hH 0 c).after 1 t = iblk m hO c 1 t := by dsimp only [dats]; try rfl
theorem after0_2 (hO : Ok m) (hH : LensOk m) (c : Dev nD) (t : Fin (cfgM m hO).N) : (dats m hO hH 0 c).after 2 t = iblk m hO c 2 t := by dsimp only [dats]; try rfl
theorem after0_3 (hO : Ok m) (hH : LensOk m) (c : Dev nD) (t : Fin (cfgM m hO).N) : (dats m hO hH 0 c).after 3 t = iblk m hO c 3 t := by dsimp only [dats]; try rfl
theorem after0_4 (hO : Ok m) (hH : LensOk m) (c : Dev nD) (t : Fin (cfgM m hO).N) : (dats m hO hH 0 c).after 4 t = iblk m hO c 4 t := by dsimp only [dats]; try rfl
theorem after0_5 (hO : Ok m) (hH : LensOk m) (c : Dev nD) (t : Fin (cfgM m hO).N) : (dats m hO hH 0 c).after 5 t = (outsAt0 m hO c t).1 := by dsimp only [dats]; try rfl
theorem after0_6 (hO : Ok m) (hH : LensOk m) (c : Dev nD) (t : Fin (cfgM m hO).N) : (dats m hO hH 0 c).after 6 t = (outsAt0 m hO c t).2.1 := by dsimp only [dats]; try rfl
theorem after0_7 (hO : Ok m) (hH : LensOk m) (c : Dev nD) (t : Fin (cfgM m hO).N) : (dats m hO hH 0 c).after 7 t = (outsAt0 m hO c t).2.2 := by dsimp only [dats]; try rfl

/-- Each input's current staging buffer holds its block at every point, fetched there or not (`beforeK_W_of`). -/
theorem before0_0 (hO : Ok m) (hH : LensOk m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : LensOk m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : LensOk m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : LensOk m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : LensOk m) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : LensOk m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d)))

/-- and what it returns. -/
def bodyPost (hO : Ok m) (hH : LensOk m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : LensOk m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq, PhiA0_eq]
  unfold outsAt0
  dsimp only
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c (grid0.coords t) _ _ _ _ _ _ _ _ _ _ _ _ _ _ _ _ _ _ _ _ _ _ _ _ (iblk m hO c 0 t) (iblk m hO c 1 t) (iblk m hO c 2 t) (iblk m hO c 3 t) (iblk m hO c 4 t) (tbl m 0) (hH c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : LensOk m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : LensOk m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : LensOk m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : LensOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- THE FRAME: `Cert.quiescent_AttnIdeal`'s statement (Defs.lean) at any `F` — Proof.lean cites it at `Bits`:
    for every prefetched table whose sequence lengths are in range. -/
theorem frame (hO : Ok m) (hH : LensOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.AttnIdeal.Gen

end
-- ==== Proof.K.Points.lean ====
module

public import proofs.«01_k».proof.Proof.Gen.Attn
public import Idealize.ShloMosaic.Lib.Pipeline.Kit

@[expose] public section

noncomputable section

namespace Cert.Attn.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 24), at any contents of the tables (its index map reads none). -/
theorem fetch0_1 (a : (pcfg0 (F := F)).Adm) : ∀ t : Fin (cfg0 a).N, ((cfg0 a).win 1).fetch t = true ↔ t.val % 24 = 0 :=
  (fun t => Pipeline.Window.fetchOf_reads cc0_transform_1 reads0_1 hreads0_1 0 (by decide) (by decide) (Pipeline.Window.sep_of_coord cc0_transform_1 0 0 (fun _ => rfl) (by decide)) (P := 24) (by decide) t : ∀ t : Fin grid0.N, Pipeline.Window.fetchOf grid0 false cc0_transform_1 t = true ↔ t.val % 24 = 0)
/-- Window 2 (operand 3 (%arg3)) is fetched at the points ≡ 0 (mod 24), at any contents of the tables (its index map reads none). -/
theorem fetch0_2 (a : (pcfg0 (F := F)).Adm) : ∀ t : Fin (cfg0 a).N, ((cfg0 a).win 2).fetch t = true ↔ t.val % 24 = 0 :=
  (fun t => Pipeline.Window.fetchOf_reads cc0_transform_2 reads0_2 hreads0_2 0 (by decide) (by decide) (Pipeline.Window.sep_of_coord cc0_transform_2 0 0 (fun _ => rfl) (by decide)) (P := 24) (by decide) t : ∀ t : Fin grid0.N, Pipeline.Window.fetchOf grid0 false cc0_transform_2 t = true ↔ t.val % 24 = 0)
/-- Window 3 (operand 4 (%arg4)) is fetched at the points ≡ 0 (mod 24), at any contents of the tables (its index map reads none). -/
theorem fetch0_3 (a : (pcfg0 (F := F)).Adm) : ∀ t : Fin (cfg0 a).N, ((cfg0 a).win 3).fetch t = true ↔ t.val % 24 = 0 :=
  (fun t => Pipeline.Window.fetchOf_reads cc0_transform_3 reads0_3 hreads0_3 0 (by decide) (by decide) (Pipeline.Window.sep_of_coord cc0_transform_3 0 0 (fun _ => rfl) (by decide)) (P := 24) (by decide) t : ∀ t : Fin grid0.N, Pipeline.Window.fetchOf grid0 false cc0_transform_3 t = true ↔ t.val % 24 = 0)
/-- Window 4 (operand 5 (%arg5)) is fetched at the points ≡ 0 (mod 24), at any contents of the tables (its index map reads none). -/
theorem fetch0_4 (a : (pcfg0 (F := F)).Adm) : ∀ t : Fin (cfg0 a).N, ((cfg0 a).win 4).fetch t = true ↔ t.val % 24 = 0 :=
  (fun t => Pipeline.Window.fetchOf_reads cc0_transform_4 reads0_4 hreads0_4 0 (by decide) (by decide) (Pipeline.Window.sep_of_coord cc0_transform_4 0 0 (fun _ => rfl) (by decide)) (P := 24) (by decide) t : ∀ t : Fin grid0.N, Pipeline.Window.fetchOf grid0 false cc0_transform_4 t = true ↔ t.val % 24 = 0)
/-- Window 5 (result 0 (%0#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%0#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%0#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 2 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Attn.Gen

end
-- ==== Proof.K.Runs.lean ====
module

public import proofs.«01_k».proof.Proof.Gen.Attn.Launch
public import proofs.«01_k».proof.Proof.Gen.Attn.Skeleton
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Attn`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The kernel body on any staging memrefs: a subtype the run finds -/

/-- One staging buffer of output window 5, through which its contents are stated (`View.read_writes_of_cover`: the
    choice does not matter). -/
abbrev VO0_5 : View sig .tc .vmem S1x256x128 .bf16 := (Memref.whole cc0_stg5_0 : Memref sig .tc .vmem S1x256x128 .bf16).view
/-- One staging buffer of output window 6, through which its contents are stated (`View.read_writes_of_cover`: the
    choice does not matter). -/
abbrev VO0_6 : View sig .tc .vmem S1x256x128 .fp8e4m3 := (Memref.whole cc0_stg6_0 : Memref sig .tc .vmem S1x256x128 .fp8e4m3).view
/-- One staging buffer of output window 7, through which its contents are stated (`View.read_writes_of_cover`: the
    choice does not matter). -/
abbrev VO0_7 : View sig .tc .vmem S1x1x256 .f32 := (Memref.whole cc0_stg7_0 : Memref sig .tc .vmem S1x1x256 .f32).view
/-- Each window's current staging memref at point `t`, spelled as the pipeline passes it (`bodyAt0`), and its wholeness. -/
abbrev ms0_0 (hO : Ok m) (t : Fin (cfgM m hO).N) : Memref sig .tc .vmem S1x256x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x32768x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x32768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x32768x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x256x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S2) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S32x256x1024 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Attn.Gen

end
-- ==== Proof.K.Words.lean ====
module

public import proofs.«01_k».proof.Proof.Gen.Attn.Skeleton
public import Idealize.ShloMosaic.Lib.LoopRemainder
public import Idealize.ShloMosaic.Lib.Routing.Words
public import Idealize.ShloMosaic.Lib.WholeRead

@[expose] public section

/-! The 32-bit words of the attention kernel: how many 1024-key blocks a sequence length has, how often each loop
runs, and where each load and store lies. -/

set_option maxRecDepth 16384

namespace Cert.Attn.Gen

open Idealize.ShloMosaic Idealize.SL.Sem

/-- The number of 1024-key blocks that hold the first `n` keys. -/
def nBlk (v1 : BitVec 32) : Nat := (v1.toNat + 1023) / 1024

/-- A sequence length the kernel is given: between 1 and 32768 keys. -/
def LenOk (v1 : BitVec 32) : Prop := 1 ≤ v1.toNat ∧ v1.toNat ≤ 32768

theorem LenOk.pos {v1 : BitVec 32} (h : LenOk v1) : 1 ≤ nBlk v1 := by unfold nBlk LenOk at *; omega
theorem LenOk.le {v1 : BitVec 32} (h : LenOk v1) : nBlk v1 ≤ 32 := by unfold nBlk LenOk at *; omega

/-- The kernel's count of blocks is the word of `nBlk`. -/
theorem word_v3 (v1 : BitVec 32) (h : LenOk v1) :
    Scalar.divsi (Scalar.addi v1 1023#32) 1024#32 = BitVec.ofNat 32 (nBlk v1) := by
  have e : Scalar.addi v1 1023#32 = BitVec.ofNat 32 (v1.toNat + 1023) := by
    unfold Scalar.addi IntOp.addi
    apply BitVec.eq_of_toNat_eq
    simp only [BitVec.toNat_add, BitVec.toNat_ofNat]
  rw [e]
  exact Routing.divsi_word .scalar (by unfold LenOk at h; omega) (by decide) (by decide)

theorem word_sub1 {n : Nat} (h1 : 1 ≤ n) (h2 : n ≤ 32) : Scalar.subi (BitVec.ofNat 32 n) 1#32 = BitVec.ofNat 32 (n - 1) := by
  unfold Scalar.subi IntOp.subi
  apply BitVec.eq_of_toNat_eq
  simp only [BitVec.toNat_sub, BitVec.toNat_ofNat]
  omega

theorem word_sub0 (x : BitVec 32) : Scalar.subi x 0#32 = x := by unfold Scalar.subi IntOp.subi; simp
theorem word_add0 (x : BitVec 32) : Scalar.addi 0#32 x = x := by unfold Scalar.addi IntOp.addi; simp

theorem word_iv (k : Nat) : Scf.iv 0#32 1#32 k = BitVec.ofNat 32 k := by unfold Scf.iv; simp

theorem word_mul1024 {k : Nat} (h : k < 32) : Scalar.muli (BitVec.ofNat 32 k) 1024#32 = BitVec.ofNat 32 (1024 * k) := by
  unfold Scalar.muli IntOp.muli
  apply BitVec.eq_of_toNat_eq
  simp only [BitVec.toNat_mul, BitVec.toNat_ofNat]
  omega

theorem trips_ofNat {n : Nat} (h : n ≤ 32) : Scf.trips 0#32 (BitVec.ofNat 32 n) 1#32 = n := by
  unfold Scf.trips
  have h1 : (1#32 : BitVec 32).toInt = 1 := by decide
  have h0 : (0#32 : BitVec 32).toInt = 0 := by decide
  have hn : (BitVec.ofNat 32 n).toInt = (n : Int) := by
    rw [BitVec.toInt_eq_toNat_cond, BitVec.toNat_ofNat]; split <;> omega
  rw [h1, h0, hn]; omega

theorem ok_ofNat {n : Nat} (h : n ≤ 32) : Scf.OK 0#32 (BitVec.ofNat 32 n) 1#32 := by
  unfold Scf.OK
  rw [trips_ofNat h]
  have h1 : (1#32 : BitVec 32).toInt = 1 := by decide
  have h0 : (0#32 : BitVec 32).toInt = 0 := by decide
  rw [h1, h0]; constructor <;> omega

theorem t1_loop_eq (v1 : BitVec 32) (h : LenOk v1) : k0_t1_loop v1 = ⟨0#32, BitVec.ofNat 32 (nBlk v1 - 1), 1#32⟩ := by
  unfold k0_t1_loop
  simp only [word_v3 v1 h, word_sub1 h.pos h.le, word_sub0, Scalar.muli_divsi_one, word_add0]

theorem t3_loop_eq (v1 : BitVec 32) (h : LenOk v1) : k0_t3_loop v1 = ⟨0#32, BitVec.ofNat 32 (nBlk v1), 1#32⟩ := by
  unfold k0_t3_loop
  simp only [word_v3 v1 h, word_sub0, Scalar.muli_divsi_one, word_add0]

/-- The score loop visits every block but the last. -/
theorem t1_trips (v1 : BitVec 32) (h : LenOk v1) : (k0_t1_loop v1).trips = nBlk v1 - 1 := by
  rw [t1_loop_eq v1 h]; exact trips_ofNat (by have := h.le; omega)
/-- The value loop visits every block. -/
theorem t3_trips (v1 : BitVec 32) (h : LenOk v1) : (k0_t3_loop v1).trips = nBlk v1 := by
  rw [t3_loop_eq v1 h]; exact trips_ofNat h.le

theorem t1_lt {v1 : BitVec 32} (h : LenOk v1) (k : Fin (k0_t1_loop v1).trips) : k.val < 31 :=
  Nat.lt_of_lt_of_le k.isLt (by rw [t1_trips v1 h]; have := h.le; omega)
theorem t3_lt {v1 : BitVec 32} (h : LenOk v1) (k : Fin (k0_t3_loop v1).trips) : k.val < 32 :=
  Nat.lt_of_lt_of_le k.isLt (by rw [t3_trips v1 h]; exact h.le)

theorem t2_no {v1 : BitVec 32} (k : Fin (k0_t2_loop v1).trips) : False := Scf.rem_no_trip _ _ k
theorem t4_no {v1 : BitVec 32} (k : Fin (k0_t4_loop v1).trips) : False := Scf.rem_no_trip _ _ k

theorem word_toNat {k : Nat} (h : k < 65536) : (Scalar.indexCast (BitVec.ofNat 32 k)).toNat = k := by
  unfold Scalar.indexCast
  simp only [BitVec.toNat_ofNat]; omega

theorem off2_eq {v1 : BitVec 32} {k : Fin (k0_t1_loop v1).trips} (h : k.val < 32) : k0_off2 v1 k = ![0, 1024 * k.val, 0] := by
  unfold k0_off2; simp only [word_iv, word_mul1024 h]; rw [word_toNat (by omega)]
theorem off3_eq {v1 : BitVec 32} {k : Fin (k0_t1_loop v1).trips} (h : k.val < 32) : k0_off3 v1 k = ![0, 0, 1024 * k.val] := by
  unfold k0_off3; simp only [word_iv, word_mul1024 h]; rw [word_toNat (by omega)]
theorem off4_eq {v1 : BitVec 32} {k : Fin (k0_t1_loop v1).trips} (h : k.val < 32) : k0_off4 v1 k = ![k.val, 0, 0] := by
  unfold k0_off4; simp only [word_iv]; rw [word_toNat (by omega)]
theorem off8_eq {v1 : BitVec 32} (h : LenOk v1) : k0_off8 v1 = ![0, 1024 * (nBlk v1 - 1), 0] := by
  have := h.le
  unfold k0_off8; simp only [word_v3 v1 h, word_sub1 h.pos h.le]; rw [word_mul1024 (by omega), word_toNat (by omega)]
theorem off9_eq {v1 : BitVec 32} (h : LenOk v1) : k0_off9 v1 = ![0, 0, 1024 * (nBlk v1 - 1)] := by
  have := h.le
  unfold k0_off9; simp only [word_v3 v1 h, word_sub1 h.pos h.le]; rw [word_mul1024 (by omega), word_toNat (by omega)]
theorem off10_eq {v1 : BitVec 32} (h : LenOk v1) : k0_off10 v1 = ![nBlk v1 - 1, 0, 0] := by
  have := h.le
  unfold k0_off10; simp only [word_v3 v1 h, word_sub1 h.pos h.le]; rw [word_toNat (by omega)]
theorem off11_eq {v1 : BitVec 32} {k : Fin (k0_t3_loop v1).trips} (h : k.val < 32) : k0_off11 v1 k = ![k.val, 0, 0] := by
  unfold k0_off11; simp only [word_iv]; rw [word_toNat (by omega)]
theorem off12_eq {v1 : BitVec 32} {k : Fin (k0_t3_loop v1).trips} (h : k.val < 32) : k0_off12 v1 k = ![k.val, 0, 128] := by
  unfold k0_off12; simp only [word_iv]; rw [word_toNat (by omega)]
theorem off13_eq {v1 : BitVec 32} {k : Fin (k0_t3_loop v1).trips} (h : k.val < 32) : k0_off13 v1 k = ![k.val, 0, 256] := by
  unfold k0_off13; simp only [word_iv]; rw [word_toNat (by omega)]
theorem off14_eq {v1 : BitVec 32} {k : Fin (k0_t3_loop v1).trips} (h : k.val < 32) : k0_off14 v1 k = ![k.val, 0, 384] := by
  unfold k0_off14; simp only [word_iv]; rw [word_toNat (by omega)]
theorem off15_eq {v1 : BitVec 32} {k : Fin (k0_t3_loop v1).trips} (h : k.val < 32) : k0_off15 v1 k = ![k.val, 0, 512] := by
  unfold k0_off15; simp only [word_iv]; rw [word_toNat (by omega)]
theorem off16_eq {v1 : BitVec 32} {k : Fin (k0_t3_loop v1).trips} (h : k.val < 32) : k0_off16 v1 k = ![k.val, 0, 640] := by
  unfold k0_off16; simp only [word_iv]; rw [word_toNat (by omega)]
theorem off17_eq {v1 : BitVec 32} {k : Fin (k0_t3_loop v1).trips} (h : k.val < 32) : k0_off17 v1 k = ![k.val, 0, 768] := by
  unfold k0_off17; simp only [word_iv]; rw [word_toNat (by omega)]
theorem off18_eq {v1 : BitVec 32} {k : Fin (k0_t3_loop v1).trips} (h : k.val < 32) : k0_off18 v1 k = ![k.val, 0, 896] := by
  unfold k0_off18; simp only [word_iv]; rw [word_toNat (by omega)]
theorem off19_eq {v1 : BitVec 32} {k : Fin (k0_t3_loop v1).trips} (h : k.val < 32) : k0_off19 v1 k = ![0, 1024 * k.val, 0] := by
  unfold k0_off19; simp only [word_iv, word_mul1024 h]; rw [word_toNat (by omega)]

theorem dvd_mul1024 {k : Nat} (h : k < 32) : 1024 ∣ (Scalar.muli (BitVec.ofNat 32 k) 1024#32).toNat := by
  rw [word_mul1024 h, BitVec.toNat_ofNat, Nat.mod_eq_of_lt (by omega)]; exact Dvd.intro _ rfl

/-- A load or store of a whole key block lies inside its array. -/
theorem inb3 {s t : Fin 3 → Nat} (o : Fin 3 → Nat) (h0 : o 0 + s 0 ≤ t 0) (h1 : o 1 + s 1 ≤ t 1) (h2 : o 2 + s 2 ≤ t 2) :
    ∀ a, o a + s a ≤ t a := fun a => match a with
  | ⟨0, _⟩ => h0
  | ⟨1, _⟩ => h1
  | ⟨2, _⟩ => h2

theorem inbK {n : Nat} (h : n < 32) : ∀ a, (![0, 1024 * n, 0] : Fin 3 → Nat) a + S1x1024x128.size a ≤ S1x32768x128.size a :=
  inb3 _ (Nat.le_of_ble_eq_true rfl) (show 1024 * n + 1024 ≤ 32768 by omega) (Nat.le_of_ble_eq_true rfl)
theorem inbS {n : Nat} (h : n < 32) : ∀ a, (![0, 0, 1024 * n] : Fin 3 → Nat) a + S1x1x1024.size a ≤ S1x1x32768.size a :=
  inb3 _ (Nat.le_of_ble_eq_true rfl) (Nat.le_of_ble_eq_true rfl) (show 1024 * n + 1024 ≤ 32768 by omega)
theorem inbT {n : Nat} (h : n < 32) : ∀ a, (![n, 0, 0] : Fin 3 → Nat) a + S1x256x1024.size a ≤ S32x256x1024.size a :=
  inb3 _ (show n + 1 ≤ 32 by omega) (Nat.le_of_ble_eq_true rfl) (Nat.le_of_ble_eq_true rfl)
theorem inbC {n : Nat} (h : n < 32) (c : Nat) (hc : c + 128 ≤ 1024) :
    ∀ a, (![n, 0, c] : Fin 3 → Nat) a + S1x256x128.size a ≤ S32x256x1024.size a :=
  inb3 _ (show n + 1 ≤ 32 by omega) (Nat.le_of_ble_eq_true rfl) (show c + 128 ≤ 1024 from hc)

/-- The side conditions the body assumes of the sequence length hold for every length between 1 and 32768. -/
theorem chk1_of_len (v1 : BitVec 32) (h : LenOk v1) : k0_chk1 v1 := by
  have l1 : ∀ k : Fin (k0_t1_loop v1).trips, k.val < 32 := fun k => lt_trans (t1_lt h k) (by decide)
  have l3 : ∀ k : Fin (k0_t3_loop v1).trips, k.val < 32 := fun k => t3_lt h k
  have lb : nBlk v1 - 1 < 32 := by have := h.le; omega
  have e1 : (k0_t1_loop v1).OK := by rw [t1_loop_eq v1 h]; exact ok_ofNat (by have := h.le; omega)
  have e3 : (k0_t3_loop v1).OK := by rw [t3_loop_eq v1 h]; exact ok_ofNat h.le
  unfold k0_chk1 k0_chk1_0 k0_chk1_1
  exact ⟨⟨e1, fun k => by unfold k0_mult1; simp only [word_iv]; exact dvd_mul1024 (l1 k),
    fun k => by rw [off2_eq (l1 k)]; exact inbK (l1 k), fun k => by rw [off3_eq (l1 k)]; exact inbS (l1 k),
    fun k => by rw [off4_eq (l1 k)]; exact inbT (l1 k),
    Scf.rem_ok _ _, fun k => (t2_no k).elim, fun k => (t2_no k).elim, fun k => (t2_no k).elim, fun k => (t2_no k).elim,
    by unfold k0_mult3; simp only [word_v3 v1 h, word_sub1 h.pos h.le]; exact dvd_mul1024 lb,
    by rw [off8_eq h]; exact inbK lb, by rw [off9_eq h]; exact inbS lb, by rw [off10_eq h]; exact inbT lb,
    e3, fun k => by unfold k0_mult4; simp only [word_iv]; exact dvd_mul1024 (l3 k),
    fun k => by rw [off11_eq (l3 k)]; exact inbC (l3 k) 0 (by decide), fun k => by rw [off12_eq (l3 k)]; exact inbC (l3 k) 128 (by decide),
    fun k => by rw [off13_eq (l3 k)]; exact inbC (l3 k) 256 (by decide), fun k => by rw [off14_eq (l3 k)]; exact inbC (l3 k) 384 (by decide),
    fun k => by rw [off15_eq (l3 k)]; exact inbC (l3 k) 512 (by decide), fun k => by rw [off16_eq (l3 k)]; exact inbC (l3 k) 640 (by decide),
    fun k => by rw [off17_eq (l3 k)]; exact inbC (l3 k) 768 (by decide), fun k => by rw [off18_eq (l3 k)]; exact inbC (l3 k) 896 (by decide),
    fun k => by rw [off19_eq (l3 k)]; exact inbK (l3 k),
    Scf.rem_ok _ _, fun k => (t4_no k).elim, fun k => (t4_no k).elim, fun k => (t4_no k).elim, fun k => (t4_no k).elim, fun k => (t4_no k).elim, fun k => (t4_no k).elim⟩,
    fun k => (t4_no k).elim, fun k => (t4_no k).elim, fun k => (t4_no k).elim, fun k => (t4_no k).elim⟩

end Cert.Attn.Gen
-- ==== Proof.K.Fun.lean ====
module

public import proofs.«01_k».proof.Proof.K.Words
public import Idealize.ShloMosaic.Lib.ValueIdxCore

@[expose] public section

/-! What one grid point of the attention kernel computes, as functions of its blocks and the sequence length: the
query codes and scales, the masked scores of each 1024-key block, the running row maximum, the row sums and the
accumulated values, and the output block. -/

set_option maxRecDepth 16384

noncomputable section

namespace Cert.Attn.Gen

open Idealize.ShloMosaic Idealize.ShloMosaic.ValueIdx Idealize.SL.Sem

variable {F : FTy → Type} [FloatOps F]

/-- Rows `1024 k … 1024 k + 1023` of a key or value block. -/
def rowsK {e : EltTy} (x : Vec F S1x32768x128 e) (k : Nat) : Vec F S1x1024x128 e :=
  fun y => x (ix3 (0 : Fin 1) (⟨(1024 * k + (y 1).val) % 32768, Nat.mod_lt _ (by decide)⟩ : Fin 32768) (y 2 : Fin 128))
/-- Scales `1024 k … 1024 k + 1023` of the keys. -/
def colsS {e : EltTy} (x : Vec F S1x1x32768 e) (k : Nat) : Vec F S1x1x1024 e :=
  fun y => x (ix3 (0 : Fin 1) (0 : Fin 1) (⟨(1024 * k + (y 2).val) % 32768, Nat.mod_lt _ (by decide)⟩ : Fin 32768))
/-- Lanes `c … c + 127` of a block of scores. -/
def lanes {e : EltTy} (x : Vec F S1x256x1024 e) (c : Nat) : Vec F S1x256x128 e :=
  fun y => x (ix3 (0 : Fin 1) (y 1 : Fin 256) (⟨(c + (y 2).val) % 1024, Nat.mod_lt _ (by decide)⟩ : Fin 1024))
/-- The first of the eight equal rows of value scales. -/
def row0 {e : EltTy} (x : Vec F S1x8x128 e) : Vec F S1x1x128 e :=
  fun y => x (ix3 (0 : Fin 1) (0 : Fin 8) (y 2 : Fin 128))

variable (x0 : Vec F S1x256x128 .bf16) (x1 : Vec F S1x32768x128 .fp8e4m3) (x2 : Vec F S1x1x32768 .f32)
  (x3 : Vec F S1x32768x128 .fp8e4m3) (x4 : Vec F S1x8x128 .f32) (v1 : BitVec 32)

/-- The exponents of the query rows' scales. -/
def kExp : IVec S256x1 32 := k0_pay38 (k0_pay36 x0) (k0_pay37 x0)
/-- The query codes. -/
def kCodes : FVec F S1x256x128 .fp8e4m3 := k0_pay41 (k0_pay35 x0) (kExp x0)
/-- The query scales as they are stored. -/
def kScale : FVec F S1x1x256 .f32 := k0_pay43 (k0_pay42 (kExp x0))
/-- The factor each query row's scores are multiplied by, along the lanes. -/
def kMul : FVec F S256x128 .f32 := k0_pay44 (k0_pay40 (kExp x0))
/-- The word of the last key block's first key. -/
def kBase : BitVec 32 := Scalar.muli (Scalar.subi (Scalar.divsi (Scalar.addi v1 1023#32) 1024#32) 1#32) 1024#32

/-- The scores of key block `k`, unmasked. -/
def kT1 (k : Nat) : FVec F S1x256x1024 .f32 := k0_pay49 (kCodes x0) (rowsK x1 k) (colsS x2 k)
/-- The scores of the last key block, masked. -/
def kTl : FVec F S1x256x1024 .f32 :=
  k0_pay56 v1 (kBase v1) (k0_pay54 (kCodes x0)) (rowsK x1 (nBlk v1 - 1)) (colsS x2 (nBlk v1 - 1))
/-- The scores of key block `k`. -/
def kT (k : Nat) : FVec F S1x256x1024 .f32 := if k = nBlk v1 - 1 then kTl x0 x1 x2 v1 else kT1 x0 x1 x2 k
/-- The running maximum of each query row and lane before key block `k`. -/
def kM : Nat → FVec F S256x128 .f32
  | 0 => k0_pay45
  | k + 1 => k0_pay50 (kCodes x0) (rowsK x1 k) (colsS x2 k) (kM k)
/-- The maximum after the last block. -/
def kMl : FVec F S256x128 .f32 :=
  k0_pay57 v1 (kBase v1) (k0_pay54 (kCodes x0)) (rowsK x1 (nBlk v1 - 1)) (colsS x2 (nBlk v1 - 1)) (kM x0 x1 x2 (nBlk v1 - 1))
/-- What is subtracted from each query row's scaled scores. -/
def kOff : FVec F S256x128 .f32 := k0_pay59 (kMul x0) (k0_pay58 (kMl x0 x1 x2 v1))

/-- One block's contribution to the row sums. -/
def stepL (mul off l : FVec F S256x128 .f32) (t : FVec F S1x256x1024 .f32) : FVec F S256x128 .f32 :=
  k0_pay61 mul off (k0_pay15 mul off (k0_pay6 mul off l (lanes t 0) (lanes t 128) (lanes t 256))
    (lanes t 384) (lanes t 512) (lanes t 640) (lanes t 768)) (lanes t 896)
/-- One block's contribution to the accumulated values. -/
def stepA (mul off a : FVec F S256x128 .f32) (t : FVec F S1x256x1024 .f32) (v : Vec F S1x1024x128 .fp8e4m3) : FVec F S256x128 .f32 :=
  k0_pay62 mul off (k0_pay2 mul off (lanes t 0)) (k0_pay4 mul off (lanes t 128)) (k0_pay7 mul off (lanes t 256))
    (k0_pay9 mul off (lanes t 384)) (k0_pay11 mul off (lanes t 512)) (k0_pay13 mul off (lanes t 640))
    (k0_pay16 mul off (lanes t 768)) k0_pay17 (lanes t 896) a v

/-- The row sums per lane before key block `k`. -/
def kL : Nat → FVec F S256x128 .f32
  | 0 => k0_pay46
  | k + 1 => stepL (kMul x0) (kOff x0 x1 x2 v1) (kL k) (kT x0 x1 x2 v1 k)
/-- The accumulated values before key block `k`. -/
def kA : Nat → FVec F S256x128 .f32
  | 0 => k0_pay47
  | k + 1 => stepA (kMul x0) (kOff x0 x1 x2 v1) (kA k) (kT x0 x1 x2 v1 k) (rowsK x3 k)
theorem kL_succ (k : Nat) : kL x0 x1 x2 v1 (k + 1) = stepL (kMul x0) (kOff x0 x1 x2 v1) (kL x0 x1 x2 v1 k) (kT x0 x1 x2 v1 k) := rfl
theorem kA_succ (k : Nat) : kA x0 x1 x2 x3 v1 (k + 1) = stepA (kMul x0) (kOff x0 x1 x2 v1) (kA x0 x1 x2 x3 v1 k) (kT x0 x1 x2 v1 k) (rowsK x3 k) := rfl
/-- The output block. -/
def kOut : FVec F S1x256x128 .bf16 := k0_pay66 (kL x0 x1 x2 v1 (nBlk v1)) (kA x0 x1 x2 x3 v1 (nBlk v1)) (row0 x4)

/-- Block `k` of the score scratch reads `t`. -/
def BlockIs (d : Vec F S32x256x1024 .f32) (k : Nat) (t : Vec F S1x256x1024 .f32) : Prop :=
  ∀ (h : k < 32) (r : Fin 256) (c : Fin 1024), d (ix3 (⟨k, h⟩ : Fin 32) r c) = t (ix3 (0 : Fin 1) r c)

end Cert.Attn.Gen

end
-- ==== Proof.K.Trip.lean ====
module

public import proofs.«01_k».proof.Proof.K.Runs
public import proofs.«01_k».proof.Proof.K.Fun

@[expose] public section

/-! One trip of each loop of the attention kernel, run: the score loop stores one block of scores and raises the running
maximum; the value loop adds one block to the row sums and to the accumulated values. -/

set_option maxRecDepth 16384

noncomputable section

namespace Cert.Attn.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Whole loads and stores, and loads of a block -/

section Rects
variable {s : Shape} {e : EltTy} {sp : CoreSpace} {m : Memref sig .tc sp s e}

theorem unit_idx_whole {off : Fin s.rank → Nat} (h0 : ∀ a, off a = 0) (hin : ∀ a, off a + s.size a ≤ s.size a)
    (x : s.Idx) : (Rect.unit (s := s) off s.size hin).toLoadRect.idx x = x := by
  funext a
  apply Fin.ext
  simp only [LoadRect.idx_apply]
  show off a + 1 * (x a).val = (x a).val
  rw [h0 a]; omega

/-- A whole load of a buffer held at the contents that read `X` is `X`. -/
theorem readAt_all (h : m.IsWhole) (X : s.Idx → Elt F e) {off : Fin s.rank → Nat} (h0 : ∀ a, off a = 0)
    (hin : ∀ a, off a + s.size a ≤ s.size a) :
    View.readAt (Elt F) m.view (Rect.unit (s := s) off s.size hin).toLoadRect (h.unread X) = X :=
  funext fun x => (h.readAt_unread X _ x).trans (congrArg X (unit_idx_whole h0 hin x))

/-- A whole store leaves the contents that read what was stored. -/
theorem writes_all (h : m.IsWhole) (f : m.view.ty.Contents (Elt F)) (w : s.Idx → Elt F e) {off : Fin s.rank → Nat} (h0 : ∀ a, off a = 0)
    (hin : ∀ a, off a + s.size a ≤ s.size a) (L : List (View.Piece (Elt F) s e)) :
    m.view.writes (Elt F) f ((⟨Rect.unit (s := s) off s.size hin, w⟩ : View.Piece (Elt F) s e) :: L) = h.unread w := by
  apply h.eq_unread
  funext y
  exact View.read_writes_cons_hit_of_coords m.view f (Rect.unit (s := s) off s.size hin) w L (show (Rect.unit (s := s) off s.size hin).shape.Idx from y) y
    (fun a => by
      show (y a).val = off a + 1 * (y a).val
      rw [h0 a]; omega)
end Rects

theorem zero2 : ∀ a : Fin 2, (![0, 0] : Fin 2 → Nat) a = 0 := by decide
theorem zero3 : ∀ a : Fin 3, (![0, 0, 0] : Fin 3 → Nat) a = 0 := by decide

theorem idx3_ext {n0 n1 n2 : Nat} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext d
  match d with
  | ⟨0, _⟩ => exact Fin.ext h0
  | ⟨1, _⟩ => exact Fin.ext h1
  | ⟨2, _⟩ => exact Fin.ext h2

/-- A load of rows `1024 k …` reads those rows. -/
theorem readAt_rows {e : EltTy} {sp : CoreSpace} {m : Memref sig .tc sp S1x32768x128 e} (h : m.IsWhole) (X : Vec F S1x32768x128 e)
    {off : Fin 3 → Nat} {k : Nat} (hk : k < 32) (ho : off = ![0, 1024 * k, 0])
    (hin : ∀ a, off a + S1x1024x128.size a ≤ S1x32768x128.size a) :
    View.readAt (Elt F) m.view (Rect.unit (s := S1x32768x128) off S1x1024x128.size hin).toLoadRect (h.unread X) = rowsK X k := by
  subst ho
  funext y
  refine (h.readAt_unread X _ y).trans (congrArg X (idx3_ext _ _ _ _ ?_ ?_ ?_))
  · show 0 + 1 * (y 0).val = 0
    have : (y 0).val < 1 := (y 0).isLt
    omega
  · show 1024 * k + 1 * (y 1).val = (1024 * k + (y 1).val) % 32768
    have : (y 1).val < 1024 := (y 1).isLt
    omega
  · show 0 + 1 * (y 2).val = (y 2).val
    omega

/-- A load of scales `1024 k …` reads those scales. -/
theorem readAt_cols {e : EltTy} {sp : CoreSpace} {m : Memref sig .tc sp S1x1x32768 e} (h : m.IsWhole) (X : Vec F S1x1x32768 e)
    {off : Fin 3 → Nat} {k : Nat} (hk : k < 32) (ho : off = ![0, 0, 1024 * k])
    (hin : ∀ a, off a + S1x1x1024.size a ≤ S1x1x32768.size a) :
    View.readAt (Elt F) m.view (Rect.unit (s := S1x1x32768) off S1x1x1024.size hin).toLoadRect (h.unread X) = colsS X k := by
  subst ho
  funext y
  refine (h.readAt_unread X _ y).trans (congrArg X (idx3_ext _ _ _ _ ?_ ?_ ?_))
  · show 0 + 1 * (y 0).val = 0
    have : (y 0).val < 1 := (y 0).isLt
    omega
  · show 0 + 1 * (y 1).val = 0
    have : (y 1).val < 1 := (y 1).isLt
    omega
  · show 1024 * k + 1 * (y 2).val = (1024 * k + (y 2).val) % 32768
    have : (y 2).val < 1024 := (y 2).isLt
    omega

/-- A load of the first row of value scales. -/
theorem readAt_row0 {e : EltTy} {sp : CoreSpace} {m : Memref sig .tc sp S1x8x128 e} (h : m.IsWhole) (X : Vec F S1x8x128 e)
    (hin : ∀ a, (![0, 0, 0] : Fin 3 → Nat) a + S1x1x128.size a ≤ S1x8x128.size a) :
    View.readAt (Elt F) m.view (Rect.unit (s := S1x8x128) ![0, 0, 0] S1x1x128.size hin).toLoadRect (h.unread X) = row0 X := by
  funext y
  refine (h.readAt_unread X _ y).trans (congrArg X (idx3_ext _ _ _ _ ?_ ?_ ?_))
  · show 0 + 1 * (y 0).val = 0
    have : (y 0).val < 1 := (y 0).isLt
    omega
  · show 0 + 1 * (y 1).val = 0
    have : (y 1).val < 1 := (y 1).isLt
    omega
  · show 0 + 1 * (y 2).val = (y 2).val
    omega

/-- A load of 128 lanes of a block of scores reads those lanes of what the block is. -/
theorem readAt_lanes {sp : CoreSpace} {m : Memref sig .tc sp S32x256x1024 .f32} (f : m.view.ty.Contents (Elt F))
    {off : Fin 3 → Nat} {k c : Nat} (hk : k < 32) (hc : c + 128 ≤ 1024) (ho : off = ![k, 0, c]) {t : Vec F S1x256x1024 .f32}
    (hf : BlockIs (m.view.read (Elt F) f) k t)
    (hin : ∀ a, off a + S1x256x128.size a ≤ S32x256x1024.size a) :
    View.readAt (Elt F) m.view (Rect.unit (s := S32x256x1024) off S1x256x128.size hin).toLoadRect f = lanes t c := by
  subst ho
  funext y
  have h2 : (y 2).val < 128 := (y 2).isLt
  have h0 : (y 0).val < 1 := (y 0).isLt
  refine Eq.trans (congrArg (m.view.read (Elt F) f) (idx3_ext _ (⟨k, hk⟩ : Fin 32) (y 1 : Fin 256) (⟨(c + (y 2).val) % 1024, Nat.mod_lt _ (by decide)⟩ : Fin 1024) ?_ ?_ ?_)) (hf hk _ _)
  · show k + 1 * (y 0).val = k
    omega
  · show 0 + 1 * (y 1).val = (y 1).val
    omega
  · show c + 1 * (y 2).val = (c + (y 2).val) % 1024
    omega

/-- A store of block `k` makes it the block stored. -/
theorem block_store {sp : CoreSpace} {m : Memref sig .tc sp S32x256x1024 .f32} (f : m.view.ty.Contents (Elt F))
    {off : Fin 3 → Nat} {k : Nat} (ho : off = ![k, 0, 0]) (t : Vec F S1x256x1024 .f32)
    (hin : ∀ a, off a + S1x256x1024.size a ≤ S32x256x1024.size a) :
    BlockIs (m.view.read (Elt F) (m.view.writes (Elt F) f [(⟨Rect.unit (s := S32x256x1024) off S1x256x1024.size hin, t⟩ : View.Piece (Elt F) S32x256x1024 .f32)])) k t := by
  subst ho
  intro h r c
  exact View.read_writes_cons_hit_of_coords m.view f (Rect.unit (s := S32x256x1024) ![k, 0, 0] S1x256x1024.size hin) t [] (ix3 (0 : Fin 1) r c)
    (ix3 (⟨k, h⟩ : Fin 32) r c) (fun a => by
      match a with
      | ⟨0, _⟩ => show k = k + 1 * 0; omega
      | ⟨1, _⟩ => show r.val = 0 + 1 * r.val; omega
      | ⟨2, _⟩ => show c.val = 0 + 1 * c.val; omega)

/-- A store of block `k` leaves every other block. -/
theorem block_keep {sp : CoreSpace} {m : Memref sig .tc sp S32x256x1024 .f32} (f : m.view.ty.Contents (Elt F))
    {off : Fin 3 → Nat} {k j : Nat} (hj : j ≠ k) (ho : off = ![k, 0, 0]) (w t : Vec F S1x256x1024 .f32)
    (hin : ∀ a, off a + S1x256x1024.size a ≤ S32x256x1024.size a) (hf : BlockIs (m.view.read (Elt F) f) j t) :
    BlockIs (m.view.read (Elt F) (m.view.writes (Elt F) f [(⟨Rect.unit (s := S32x256x1024) off S1x256x1024.size hin, w⟩ : View.Piece (Elt F) S32x256x1024 .f32)])) j t := by
  subst ho
  intro h r c
  refine Eq.trans (View.read_writes_cons_miss_of_axis m.view f (⟨Rect.unit (s := S32x256x1024) ![k, 0, 0] S1x256x1024.size hin, w⟩ : View.Piece (Elt F) S32x256x1024 .f32) []
    (ix3 (⟨j, h⟩ : Fin 32) r c) (0 : Fin 3) k 1 rfl rfl rfl ?_) (hf h r c)
  show j < k ∨ k + 1 ≤ j
  omega

end Cert.Attn.Gen

end
-- ==== Proof.K.Body1.lean ====
module

public import proofs.«01_k».proof.Proof.K.Trip

@[expose] public section

set_option maxRecDepth 16384

noncomputable section

namespace Cert.Attn.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loops' invariants and one trip of each -/

/-- Before trip `k` of the score loop: the query codes, keys and scales as they were, the first `k` blocks of scores
    stored, the running maximum over them. -/
def inv1 (c : Dev nD) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (k : Nat) (_ : BitVec 32) : sProp 𝕄 :=
  iprop((arg4.view.loc (c : Thread nD τ) ↦[arg4.view.set]{fullShare} harg4.unread x1) ∗ (arg5.view.loc (c : Thread nD τ) ↦[arg5.view.set]{fullShare} harg5.unread x2) ∗ (arg9.view.loc (c : Thread nD τ) ↦[arg9.view.set]{fullShare} harg9.unread (kCodes x0))
    ∗ (∃ f, (arg11.view.loc (c : Thread nD τ) ↦[arg11.view.set]{fullShare} f) ∗ ⌜∀ j, j < k → BlockIs (arg11.view.read (Elt F) f) j (kT1 x0 x1 x2 j)⌝) ∗ (arg12.view.loc (c : Thread nD τ) ↦[arg12.view.set]{fullShare} harg12.unread (kM x0 x1 x2 k)))

set_option maxHeartbeats 1000000 in
theorem trip1 (c : Dev nD) (i : grid0.Coords) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (v1 : BitVec 32) (hw : k0_chk1 v1) (hl : LenOk v1)
    (v3 : BitVec 32) (v93 : FVec F S256x1 .f32) (v127 : FVec F S1x256 .f32) (E : Set ℕ) (k : Fin (k0_t1_loop v1).trips) (acc : BitVec 32) :
    inv1 c arg2 harg2 arg3 harg3 arg4 harg4 arg5 harg5 arg6 harg6 arg7 harg7 arg8 harg8 arg9 harg9 arg10 harg10 arg11 harg11 arg12 harg12 arg13 harg13 arg14 harg14 x0 x1 x2 k.val acc
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 v1 hw v3 v93 v127 k acc)
        (inv1 c arg2 harg2 arg3 harg3 arg4 harg4 arg5 harg5 arg6 harg6 arg7 harg7 arg8 harg8 arg9 harg9 arg10 harg10 arg11 harg11 arg12 harg12 arg13 harg13 arg14 harg14 x0 x1 x2 (k.val + 1)) := by
  unfold k0_t1_body
  unfold inv1
  iintro ⟨H4, H5, H9, ⟨%f, H11, %hf⟩, H12⟩
  sl_exec
  sl_step
  isplitl [H4]; · iexact H4
  isplitl [H5]; · iexact H5
  isplitl [H9]; · iexact H9
  have hk : k.val < 32 := Nat.lt_succ_of_lt (t1_lt hl k)
  simp only [readAt_all harg9 (kCodes x0) zero3, readAt_rows harg4 x1 hk (off2_eq hk), readAt_cols harg5 x2 hk (off3_eq hk),
    readAt_all harg12 (kM x0 x1 x2 k.val) zero2, writes_all harg12 _ _ zero2]
  isplitl [H11]
  · iexists _
    isplitl [H11]; · iexact H11
    ipureintro
    intro j hj
    rcases Nat.lt_succ_iff_lt_or_eq.mp hj with h | h
    · exact block_keep f (Nat.ne_of_lt h) (off4_eq hk) _ _ _ (hf j h)
    · subst h
      exact block_store f (off4_eq hk) _ _
  · iexact H12

end Cert.Attn.Gen

end
-- ==== Proof.K.Body3.lean ====
module

public import proofs.«01_k».proof.Proof.K.Trip

@[expose] public section

set_option maxRecDepth 16384

noncomputable section

namespace Cert.Attn.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Before trip `k` of the value loop: the values, the scores and what is subtracted from them as they were, the row sums
    and accumulated values of the first `k` blocks. -/
def inv3 (c : Dev nD) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3) (v1 : BitVec 32)
    (k : Nat) (_ : BitVec 32) : sProp 𝕄 :=
  iprop((arg6.view.loc (c : Thread nD τ) ↦[arg6.view.set]{fullShare} harg6.unread x3) ∗ (∃ f, (arg11.view.loc (c : Thread nD τ) ↦[arg11.view.set]{fullShare} f) ∗ ⌜∀ j, j < nBlk v1 → BlockIs (arg11.view.read (Elt F) f) j (kT x0 x1 x2 v1 j)⌝)
    ∗ (arg12.view.loc (c : Thread nD τ) ↦[arg12.view.set]{fullShare} harg12.unread (kOff x0 x1 x2 v1)) ∗ (arg13.view.loc (c : Thread nD τ) ↦[arg13.view.set]{fullShare} harg13.unread (kL x0 x1 x2 v1 k)) ∗ (arg14.view.loc (c : Thread nD τ) ↦[arg14.view.set]{fullShare} harg14.unread (kA x0 x1 x2 x3 v1 k)))

set_option maxHeartbeats 2000000 in
theorem trip3 (c : Dev nD) (i : grid0.Coords) (arg2 : Memref sig .tc .smem S2 .i32) (harg2 : arg2.IsWhole)
    (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3)
    (v1 : BitVec 32) (hw : k0_chk1 v1) (hl : LenOk v1)
    (mul : FVec F S256x128 .f32) (hm : mul = kMul x0) (E : Set ℕ) (k : Fin (k0_t3_loop v1).trips) (acc : BitVec 32) :
    inv3 c arg2 harg2 arg3 harg3 arg4 harg4 arg5 harg5 arg6 harg6 arg7 harg7 arg8 harg8 arg9 harg9 arg10 harg10 arg11 harg11 arg12 harg12 arg13 harg13 arg14 harg14 x0 x1 x2 x3 v1 k.val acc
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 v1 hw mul k acc)
        (inv3 c arg2 harg2 arg3 harg3 arg4 harg4 arg5 harg5 arg6 harg6 arg7 harg7 arg8 harg8 arg9 harg9 arg10 harg10 arg11 harg11 arg12 harg12 arg13 harg13 arg14 harg14 x0 x1 x2 x3 v1 (k.val + 1)) := by
  subst hm
  have hk : k.val < 32 := t3_lt hl k
  unfold k0_t3_body
  simp only [k0_part1_eq_skeleton, k0_part2_eq_skeleton]
  unfold inv3
  iintro ⟨H6, ⟨%f, H11, %hf⟩, H12, H13, H14⟩
  sl_exec
  sl_step
  have hb := hf k.val (Nat.lt_of_lt_of_eq k.isLt (t3_trips v1 hl))
  isplitl [H6]; · iexact H6
  isplitl [H11]
  · iexists f
    isplitl [H11]; · iexact H11
    ipureintro; exact hf
  isplitl [H12]; · iexact H12
  delta trip3.sl.r trip3.sl.r_1 trip3.sl.r_2 trip3.sl.r_3 trip3.sl.r_4 trip3.sl.r_5 trip3.sl.r_6 trip3.sl.r_7 trip3.sl.r_8 trip3.sl.r_9
  simp only [readAt_all harg12 (kOff x0 x1 x2 v1) zero2, readAt_rows harg6 x3 hk (off19_eq hk),
    readAt_lanes f hk (by decide) (off11_eq hk) hb, readAt_lanes f hk (by decide) (off12_eq hk) hb, readAt_lanes f hk (by decide) (off13_eq hk) hb,
    readAt_lanes f hk (by decide) (off14_eq hk) hb, readAt_lanes f hk (by decide) (off15_eq hk) hb, readAt_lanes f hk (by decide) (off16_eq hk) hb,
    readAt_lanes f hk (by decide) (off17_eq hk) hb, readAt_lanes f hk (by decide) (off18_eq hk) hb,
    readAt_all harg13 (kL x0 x1 x2 v1 k.val) zero2, writes_all harg13 _ _ zero2,
    readAt_all harg14 (kA x0 x1 x2 x3 v1 k.val) zero2, writes_all harg14 _ _ zero2]
  simp only [kL_succ, kA_succ, stepL, stepA]
  isplitl [H13]
  · iexact H13
  · iexact H14

end Cert.Attn.Gen

end
-- ==== Proof.K.Body.lean ====
module

public import proofs.«01_k».proof.Proof.K.Body1
public import proofs.«01_k».proof.Proof.K.Body3
public import Idealize.ShloMosaic.Lib.LoopRemainder
public import Idealize.ShloMosaic.Lib.VecWindow

@[expose] public section

/-! The whole body of one grid point of the attention kernel, run. -/

set_option maxRecDepth 16384

noncomputable section

namespace Cert.Attn.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The sequence length a grid point reads from the prefetched table. -/
def ptWord (c : Dev nD) (i : grid0.Coords) (xt0 : TbBuf0 (F := F) c tbM0_0) : BitVec 32 :=
  tbM0_0.view.readAt (Elt F) (Rect.unit (s := S2) (k0_off1 i) S1.size (k0_off1_inb i)).toLoadRect xt0 (Shape.Idx.first (numel1_S1.symm ▸ Nat.one_pos))

set_option maxHeartbeats 4000000 in
/-- The body of one grid point, run: inputs as they were, the three outputs at what the functions of the inputs say. -/
theorem bodyRun (c : Dev nD) (i : grid0.Coords) (arg3 : Memref sig .tc .vmem S1x256x128 .bf16) (harg3 : arg3.IsWhole)
    (arg4 : Memref sig .tc .vmem S1x32768x128 .fp8e4m3) (harg4 : arg4.IsWhole)
    (arg5 : Memref sig .tc .vmem S1x1x32768 .f32) (harg5 : arg5.IsWhole)
    (arg6 : Memref sig .tc .vmem S1x32768x128 .fp8e4m3) (harg6 : arg6.IsWhole)
    (arg7 : Memref sig .tc .vmem S1x8x128 .f32) (harg7 : arg7.IsWhole)
    (arg8 : Memref sig .tc .vmem S1x256x128 .bf16) (harg8 : arg8.IsWhole)
    (arg9 : Memref sig .tc .vmem S1x256x128 .fp8e4m3) (harg9 : arg9.IsWhole)
    (arg10 : Memref sig .tc .vmem S1x1x256 .f32) (harg10 : arg10.IsWhole)
    (arg11 : Memref sig .tc .vmem S32x256x1024 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S256x128 .f32) (harg14 : arg14.IsWhole)
    (x0 : Vec F S1x256x128 .bf16) (x1 : Vec F S1x32768x128 .fp8e4m3) (x2 : Vec F S1x1x32768 .f32) (x3 : Vec F S1x32768x128 .fp8e4m3)
    (x4 : Vec F S1x8x128 .f32) (xt0 : TbBuf0 (F := F) c tbM0_0) (hl : LenOk (ptWord c i xt0)) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (kOut x0 x1 x2 x3 x4 (ptWord c i xt0)) ∗ owns (c : Thread nD τ) arg9 fullShare (kCodes x0) ∗ owns (c : Thread nD τ) arg10 fullShare (kScale x0)
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
      ⊢ wp frame (wpE (defs₀ (F := F)) Variants.none c none) E (cc0_attn i tbM0_0 htbM0_0 arg3 harg3 arg4 harg4 arg5 harg5 arg6 harg6 arg7 harg7 arg8 harg8 arg9 harg9 arg10 harg10 arg11 harg11 arg12 harg12 arg13 harg13 arg14 harg14) K := by
  have k0_hw1 := chk1_of_len _ hl
  unfold ptWord at k0_hw1
  simp only [cc0_attn_eq_skeleton]; unfold cc0_attn_skel
  simp only [k0_part10_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, HT0, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact k0_hw1)
  sl_for (fun k (_ : BitVec 32) => iprop((arg4.view.loc (c : Thread nD τ) ↦[arg4.view.set]{fullShare} harg4.unread x1) ∗ (arg5.view.loc (c : Thread nD τ) ↦[arg5.view.set]{fullShare} harg5.unread x2) ∗ (arg9.view.loc (c : Thread nD τ) ↦[arg9.view.set]{fullShare} harg9.unread (kCodes x0))
    ∗ (∃ f, (arg11.view.loc (c : Thread nD τ) ↦[arg11.view.set]{fullShare} f) ∗ ⌜∀ j, j < k → BlockIs (arg11.view.read (Elt F) f) j (kT1 x0 x1 x2 j)⌝) ∗ (arg12.view.loc (c : Thread nD τ) ↦[arg12.view.set]{fullShare} harg12.unread (kM x0 x1 x2 k)))) $$ [H1 H2 H6 HS0 HS1]
  case region =>
    intro k a
    exact trip1 c i tbM0_0 htbM0_0 arg3 harg3 arg4 harg4 arg5 harg5 arg6 harg6 arg7 harg7 arg8 harg8 arg9 harg9 arg10 harg10 arg11 harg11 arg12 harg12 arg13 harg13 arg14 harg14 x0 x1 x2 (ptWord c i xt0) k0_hw1 hl _ _ _ E k a
  · have e3 := readAt_all harg3 x0 zero3 inb_S1x256x128_S1x256x128_0_0_0
    have e109 : k0_pay41 (k0_pay35 (View.readAt (Elt F) arg3.view (Rect.unit (s := S1x256x128) ![0, 0, 0] S1x256x128.size inb_S1x256x128_S1x256x128_0_0_0).toLoadRect (harg3.unread x0))) (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0)))) = kCodes x0 := by rw [e3]; rfl
    have e6 : arg9.view.writes (Elt F) arg9.view.junk (bodyRun.sl.H6_1 c arg3 harg3 x0) = harg9.unread (kCodes x0) :=
      (writes_all harg9 _ _ zero3 _ _).trans (congrArg harg9.unread e109)
    have e12 : arg12.view.writes (Elt F) arg12.view.junk (bodyRun.sl.HS1_1 (F := F)) = harg12.unread (kM x0 x1 x2 0) := writes_all harg12 _ _ zero2 _ _
    rw [e6, e12]
    isplitl [H1]; · iexact H1
    isplitl [H2]; · iexact H2
    isplitl [H6]; · iexact H6
    isplitl [HS0]
    · iexists _
      isplitl [HS0]; · iexact HS0
      ipureintro
      intro j hj
      exact absurd hj (Nat.not_lt_zero j)
    · iexact HS1
  · iintro %a ⟨H1, H2, H6, ⟨%f, HS0, %hf⟩, HS1⟩
    sl_exec (disch := first | sl_exact k0_hw1)
    have e3 := readAt_all harg3 x0 zero3 inb_S1x256x128_S1x256x128_0_0_0
    have e9 := readAt_all harg9 (kCodes x0) zero3 inb_S1x256x128_S1x256x128_0_0_0
    have hb : nBlk (ptWord c i xt0) - 1 < 32 := by have := hl.le; omega
    have e4 := readAt_rows harg4 x1 hb (off8_eq hl) (k0_off8_inb (ptWord c i xt0) k0_hw1)
    have e5 := readAt_cols harg5 x2 hb (off9_eq hl) (k0_off9_inb (ptWord c i xt0) k0_hw1)
    have ht : (k0_t1_loop (ptWord c i xt0)).trips = nBlk (ptWord c i xt0) - 1 := t1_trips _ hl
    have hm : bodyRun.sl.r_7 c arg3 harg3 x0 = kMul x0 :=
      (show bodyRun.sl.r_7 c arg3 harg3 x0 = k0_pay44 (k0_pay40 (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0))))) from rfl).trans (by rw [e3]; rfl)
    have e181 : k0_pay56 (bodyRun.sl.r c i xt0) (bodyRun.sl.v156 c i xt0) (bodyRun.sl.r_8 arg9 harg9 x0) (View.readAt (Elt F) arg4.view (Rect.unit (s := S1x32768x128) (k0_off8 (bodyRun.sl.r c i xt0)) S1x1024x128.size (k0_off8_inb (bodyRun.sl.r c i xt0) k0_hw1)).toLoadRect (harg4.unread x1)) (View.readAt (Elt F) arg5.view (Rect.unit (s := S1x1x32768) (k0_off9 (bodyRun.sl.r c i xt0)) S1x1x1024.size (k0_off9_inb (bodyRun.sl.r c i xt0) k0_hw1)).toLoadRect (harg5.unread x2)) = kTl x0 x1 x2 (ptWord c i xt0) :=
      (show _ = k0_pay56 (ptWord c i xt0) (kBase (ptWord c i xt0)) (k0_pay54 (View.readAt (Elt F) arg9.view (Rect.unit (s := S1x256x128) ![0, 0, 0] S1x256x128.size inb_S1x256x128_S1x256x128_0_0_0).toLoadRect (harg9.unread (kCodes x0)))) (View.readAt (Elt F) arg4.view (Rect.unit (s := S1x32768x128) (k0_off8 (ptWord c i xt0)) S1x1024x128.size (k0_off8_inb (ptWord c i xt0) k0_hw1)).toLoadRect (harg4.unread x1)) (View.readAt (Elt F) arg5.view (Rect.unit (s := S1x1x32768) (k0_off9 (ptWord c i xt0)) S1x1x1024.size (k0_off9_inb (ptWord c i xt0) k0_hw1)).toLoadRect (harg5.unread x2)) from rfl).trans (by rw [e9, e4, e5]; rfl)
    have e201 : k0_pay57 (ptWord c i xt0) (kBase (ptWord c i xt0)) (k0_pay54 (View.readAt (Elt F) arg9.view (Rect.unit (s := S1x256x128) ![0, 0, 0] S1x256x128.size inb_S1x256x128_S1x256x128_0_0_0).toLoadRect (harg9.unread (kCodes x0)))) (View.readAt (Elt F) arg4.view (Rect.unit (s := S1x32768x128) (k0_off8 (ptWord c i xt0)) S1x1024x128.size (k0_off8_inb (ptWord c i xt0) k0_hw1)).toLoadRect (harg4.unread x1)) (View.readAt (Elt F) arg5.view (Rect.unit (s := S1x1x32768) (k0_off9 (ptWord c i xt0)) S1x1x1024.size (k0_off9_inb (ptWord c i xt0) k0_hw1)).toLoadRect (harg5.unread x2)) (View.readAt (Elt F) arg12.view (Rect.unit (s := S256x128) ![0, 0] S256x128.size inb_S256x128_S256x128_0_0).toLoadRect (harg12.unread (kM x0 x1 x2 (k0_t1_loop (ptWord c i xt0)).trips))) = kMl x0 x1 x2 (ptWord c i xt0) := by
      rw [readAt_all harg12 _ zero2, e9, e4, e5, ht]; rfl
    have e204 : bodyRun.sl.r_9 c i arg4 harg4 arg5 harg5 arg9 harg9 arg12 harg12 x0 x1 x2 xt0 k0_hw1 = k0_pay58 (kMl x0 x1 x2 (ptWord c i xt0)) :=
      (show bodyRun.sl.r_9 c i arg4 harg4 arg5 harg5 arg9 harg9 arg12 harg12 x0 x1 x2 xt0 k0_hw1 = k0_pay58 (arg12.view.readCov (bodyRun.sl.HS1_1_1 c i arg4 harg4 arg5 harg5 arg9 harg9 arg12 harg12 x0 x1 x2 xt0 k0_hw1) (Rect.unit (s := S256x128) ![0, 0] S256x128.size inb_S256x128_S256x128_0_0).toLoadRect) from rfl).trans
        (congrArg k0_pay58 ((View.readCov_full arg12.view inb_S256x128_S256x128_0_0 inb_S256x128_S256x128_0_0 _ []).trans e201))
    have e12 : arg12.view.writes (Elt F) arg12.view.junk (bodyRun.sl.HS1_2 c i arg3 harg3 arg4 harg4 arg5 harg5 arg9 harg9 arg12 harg12 x0 x1 x2 xt0 k0_hw1)
        = harg12.unread (kOff x0 x1 x2 (ptWord c i xt0)) :=
      (writes_all harg12 _ _ zero2 _ _).trans (congrArg harg12.unread (by rw [hm, e204]; rfl))
    have e13 : arg13.view.writes (Elt F) arg13.view.junk (bodyRun.sl.HS2_1 (F := F)) = harg13.unread (kL x0 x1 x2 (ptWord c i xt0) 0) := writes_all harg13 _ _ zero2 _ _
    have e14 : arg14.view.writes (Elt F) arg14.view.junk (bodyRun.sl.HS3_1 (F := F)) = harg14.unread (kA x0 x1 x2 x3 (ptWord c i xt0) 0) := writes_all harg14 _ _ zero2 _ _
    have e127 : bodyRun.sl.r_6 c arg3 harg3 x0 = k0_pay42 (kExp x0) :=
      (show bodyRun.sl.r_6 c arg3 harg3 x0 = k0_pay42 (k0_pay38 (k0_pay36 (View.readAt (Elt F) arg3.view (Rect.unit (s := S1x256x128) ![0, 0, 0] S1x256x128.size inb_S1x256x128_S1x256x128_0_0_0).toLoadRect (harg3.unread x0))) (k0_pay37 (View.readAt (Elt F) arg3.view (Rect.unit (s := S1x256x128) ![0, 0, 0] S1x256x128.size inb_S1x256x128_S1x256x128_0_0_0).toLoadRect (harg3.unread x0)))) from rfl).trans (by rw [e3]; rfl)
    have e10 : arg10.view.writes (Elt F) arg10.view.junk (bodyRun.sl.H7_1 c arg3 harg3 x0) = harg10.unread (kScale x0) :=
      (writes_all harg10 _ _ zero3 _ _).trans (congrArg harg10.unread (by rw [e127]; rfl))
    sl_for (fun k (_ : BitVec 32) => iprop((arg6.view.loc (c : Thread nD τ) ↦[arg6.view.set]{fullShare} harg6.unread x3) ∗ (∃ f, (arg11.view.loc (c : Thread nD τ) ↦[arg11.view.set]{fullShare} f) ∗ ⌜∀ j, j < nBlk (ptWord c i xt0) → BlockIs (arg11.view.read (Elt F) f) j (kT x0 x1 x2 (ptWord c i xt0) j)⌝)
    ∗ (arg12.view.loc (c : Thread nD τ) ↦[arg12.view.set]{fullShare} harg12.unread (kOff x0 x1 x2 (ptWord c i xt0))) ∗ (arg13.view.loc (c : Thread nD τ) ↦[arg13.view.set]{fullShare} harg13.unread (kL x0 x1 x2 (ptWord c i xt0) k)) ∗ (arg14.view.loc (c : Thread nD τ) ↦[arg14.view.set]{fullShare} harg14.unread (kA x0 x1 x2 x3 (ptWord c i xt0) k)))) $$ [H3 HS0 HS1 HS2 HS3]
    case region =>
      intro k a
      exact trip3 c i tbM0_0 htbM0_0 arg3 harg3 arg4 harg4 arg5 harg5 arg6 harg6 arg7 harg7 arg8 harg8 arg9 harg9 arg10 harg10 arg11 harg11 arg12 harg12 arg13 harg13 arg14 harg14 x0 x1 x2 x3 (ptWord c i xt0) k0_hw1 hl _ hm E k a
    · rw [e12, e13, e14, e181]
      isplitl [H3]; · iexact H3
      isplitl [HS0]
      · iexists _
        isplitl [HS0]; · iexact HS0
        ipureintro
        intro j hj
        by_cases h : j = nBlk (ptWord c i xt0) - 1
        · subst h
          have := block_store f (off10_eq hl) (kTl x0 x1 x2 (ptWord c i xt0)) (k0_off10_inb (ptWord c i xt0) k0_hw1)
          unfold kT; rw [if_pos rfl]; exact this
        · unfold kT; rw [if_neg h]
          exact block_keep f h (off10_eq hl) _ _ _ (hf j (show j < (k0_t1_loop (ptWord c i xt0)).trips from (by rw [ht]; omega)))
      isplitl [HS1]; · iexact HS1
      isplitl [HS2]; · iexact HS2
      · iexact HS3
    · iintro %a3 ⟨H3, ⟨%f', HS0, %hf'⟩, HS1, HS2, HS3⟩
      sl_exec
      sl_step
      have h3t : (k0_t3_loop (ptWord c i xt0)).trips = nBlk (ptWord c i xt0) := t3_trips _ hl
      have eo : bodyRun.sl.r_10 c i arg7 harg7 arg13 harg13 arg14 harg14 x0 x1 x2 x3 x4 xt0 = kOut x0 x1 x2 x3 x4 (ptWord c i xt0) :=
        (show bodyRun.sl.r_10 c i arg7 harg7 arg13 harg13 arg14 harg14 x0 x1 x2 x3 x4 xt0 = k0_pay66 (View.readAt (Elt F) arg13.view (Rect.unit (s := S256x128) ![0, 0] S256x128.size inb_S256x128_S256x128_0_0).toLoadRect (harg13.unread (kL x0 x1 x2 (ptWord c i xt0) (k0_t3_loop (ptWord c i xt0)).trips))) (View.readAt (Elt F) arg14.view (Rect.unit (s := S256x128) ![0, 0] S256x128.size inb_S256x128_S256x128_0_0).toLoadRect (harg14.unread (kA x0 x1 x2 x3 (ptWord c i xt0) (k0_t3_loop (ptWord c i xt0)).trips))) (View.readAt (Elt F) arg7.view (Rect.unit (s := S1x8x128) ![0, 0, 0] S1x1x128.size inb_S1x8x128_S1x1x128_0_0_0).toLoadRect (harg7.unread x4)) from rfl).trans
          (by rw [readAt_all harg13 _ zero2, readAt_all harg14 _ zero2, readAt_row0 harg7 x4, h3t]; rfl)
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; swap; · iexact H5
        ipureintro
        exact (congrArg (arg8.view.read (Elt F)) (writes_all harg8 f5 _ zero3 inb_S1x256x128_S1x256x128_0_0_0 [])).trans ((harg8.read_unread _).trans eo)
      isplitl [H6]
      · iexists _; isplitr; · ipureintro; exact harg9.read_unread _
        iexact H6
      isplitl [H7]
      · iexists _; isplitr; swap; · iexact H7
        ipureintro
        exact (congrArg (arg10.view.read (Elt F)) e10).trans (harg10.read_unread _)
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0

end Cert.Attn.Gen

end
-- ==== Proof.K.Frame.lean ====
module

public import proofs.«01_k».proof.Proof.K.Body
public import Idealize.ShloMosaic.Lib.Claim

@[expose] public section

/-! The run of the attention kernel from any memory whose sequence lengths are in range: the proof data, the body
obligation, the run and the frame. -/

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sequence length every grid point reads is at least 1 and at most 32768. -/
def LensOk : Prop := ∀ (c : Dev nD) (t : Fin grid0.N), LenOk (ptWord (F := F) c (grid0.coords t) (tbl m 0))

/-! ## What the outputs hold after each point -/

/-- What the outputs' staging buffers hold after the body at point `t` (in window order): the functions of the point's input
    blocks and sequence length. -/
def outsAt0 (hO : Ok m) (c : Dev nD) (t : Fin (cfgM m hO).N) : Vec F S1x256x128 .bf16 × Vec F S1x256x128 .fp8e4m3 × Vec F S1x1x256 .f32 :=
  (kOut (iblk m hO c 0 t) (iblk m hO c 1 t) (iblk m hO c 2 t) (iblk m hO c 3 t) (iblk m hO c 4 t) (ptWord (F := F) c (grid0.coords t) (tbl m 0)),
    kCodes (iblk m hO c 0 t), kScale (iblk m hO c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : LensOk m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : LensOk m) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : LensOk m) (c : Dev nD) (t : Fin (cfgM m hO).N) : (dats m hO hH 0 c).after 0 t = iblk m hO c 0 t := by dsimp only [dats]; try rfl
theorem after0_1 (hO : Ok m) (hH : LensOk m) (c : Dev nD) (t : Fin (cfgM m hO).N) : (dats m hO hH 0 c).after 1 t = iblk m hO c 1 t := by dsimp only [dats]; try rfl
theorem after0_2 (hO : Ok m) (hH : LensOk m) (c : Dev nD) (t : Fin (cfgM m hO).N) : (dats m hO hH 0 c).after 2 t = iblk m hO c 2 t := by dsimp only [dats]; try rfl
theorem after0_3 (hO : Ok m) (hH : LensOk m) (c : Dev nD) (t : Fin (cfgM m hO).N) : (dats m hO hH 0 c).after 3 t = iblk m hO c 3 t := by dsimp only [dats]; try rfl
theorem after0_4 (hO : Ok m) (hH : LensOk m) (c : Dev nD) (t : Fin (cfgM m hO).N) : (dats m hO hH 0 c).after 4 t = iblk m hO c 4 t := by dsimp only [dats]; try rfl
theorem after0_5 (hO : Ok m) (hH : LensOk m) (c : Dev nD) (t : Fin (cfgM m hO).N) : (dats m hO hH 0 c).after 5 t = (outsAt0 m hO c t).1 := by dsimp only [dats]; try rfl
theorem after0_6 (hO : Ok m) (hH : LensOk m) (c : Dev nD) (t : Fin (cfgM m hO).N) : (dats m hO hH 0 c).after 6 t = (outsAt0 m hO c t).2.1 := by dsimp only [dats]; try rfl
theorem after0_7 (hO : Ok m) (hH : LensOk m) (c : Dev nD) (t : Fin (cfgM m hO).N) : (dats m hO hH 0 c).after 7 t = (outsAt0 m hO c t).2.2 := by dsimp only [dats]; try rfl

/-- Each input's current staging buffer holds its block at every point, fetched there or not (`beforeK_W_of`). -/
theorem before0_0 (hO : Ok m) (hH : LensOk m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : LensOk m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : LensOk m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : LensOk m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : LensOk m) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : LensOk m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d)))

/-- and what it returns. -/
def bodyPost (hO : Ok m) (hH : LensOk m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : LensOk m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq, PhiA0_eq]
  unfold outsAt0
  dsimp only
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c (grid0.coords t) _ _ _ _ _ _ _ _ _ _ _ _ _ _ _ _ _ _ _ _ _ _ _ _ (iblk m hO c 0 t) (iblk m hO c 1 t) (iblk m hO c 2 t) (iblk m hO c 3 t) (iblk m hO c 4 t) (tbl m 0) (hH c t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : LensOk m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : LensOk m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : LensOk m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : LensOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- THE FRAME: `Cert.quiescent_Attn`'s statement (Defs.lean) at any `F` — Proof.lean cites it at `Bits`:
    for every prefetched table whose sequence lengths are in range. -/
theorem frame (hO : Ok m) (hH : LensOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Attn.Gen

end
-- ==== Proof.Pre.lean ====
module

public import proofs.«01_k».proof.Proof.KI.Frame
public import proofs.«01_k».proof.Proof.K.Frame
public import proofs.«01_k».proof.Pre_sizes
public import proofs.«01_k».proof.Proof.Gen.Pre_sizes
public import proofs.«01_k».proof.Defs
public import Idealize.ShloMosaic.Lib.WordCmp

@[expose] public section

/-! The precondition read: the sequence lengths are between 1 and 32768. -/

set_option maxRecDepth 16384

noncomputable section

namespace Cert.Own

open Idealize.ShloMosaic Idealize.SL.Sem

theorem len_of_word (x : BitVec 32) (h : IntOp.andi (IntOp.cmpi .sge x 1#32) (IntOp.cmpi .sle x 32768#32) = 1#1) :
    1 ≤ x.toNat ∧ x.toNat ≤ 32768 := by
  have hx : IntOp.cmpi .sge x 1#32 = BitVec.ofBool (decide ((1#32).toInt ≤ x.toInt)) := rfl
  have hy : IntOp.cmpi .sle x 32768#32 = BitVec.ofBool (decide (x.toInt ≤ (32768#32).toInt)) := rfl
  rw [hx, hy] at h
  by_cases h1 : (1#32).toInt ≤ x.toInt <;> by_cases h2 : x.toInt ≤ (32768#32).toInt
  · have e1 : (1#32 : BitVec 32).toInt = 1 := by decide
    have e2 : (32768#32 : BitVec 32).toInt = 32768 := by decide
    rw [e1] at h1; rw [e2] at h2
    have hi := BitVec.toInt_eq_toNat_cond x
    have := x.isLt
    split at hi <;> omega
  · rw [decide_eq_true h1, decide_eq_false h2] at h; exact absurd h (by decide)
  · rw [decide_eq_false h1, decide_eq_true h2] at h; exact absurd h (by decide)
  · rw [decide_eq_false h1, decide_eq_false h2] at h; exact absurd h (by decide)

theorem len_of_pre [Cert.Pre_sizes.Facts] {F : FTy → Type} [FloatOps F] (a0 : IVec Cert.Pre_sizes.S2 32)
    (a1 : FVec F Cert.Pre_sizes.S2x6144x128 .bf16) (a2 : FVec F Cert.Pre_sizes.S2x32768x128 .fp8e4m3) (a3 : FVec F Cert.Pre_sizes.S2x1x32768 .f32)
    (a4 : FVec F Cert.Pre_sizes.S2x32768x128 .fp8e4m3) (a5 : FVec F Cert.Pre_sizes.S2x8x128 .f32)
    (h : (Cert.Pre_sizes.fn a0 a1 a2 a3 a4 a5).1 = fun _ => 1#1) (i : Cert.Pre_sizes.S2.Idx) :
    1 ≤ (a0 i).toNat ∧ (a0 i).toNat ≤ 32768 :=
  len_of_word _ (congrFun h i)

theorem ok_I (m : (ℓ : Loc Cert.AttnIdeal.nD Cert.AttnIdeal.τ Cert.AttnIdeal.sig) → Buf (Elt Ideal) ℓ) : Cert.AttnIdeal.Gen.Ok m := by
  trivial
theorem ok_B (m : (ℓ : Loc Cert.Attn.nD Cert.Attn.τ Cert.Attn.sig) → Buf (Elt Bits) ℓ) : Cert.Attn.Gen.Ok m := by
  trivial

theorem lens_I [Cert.Pre_sizes.Facts] (m : (ℓ : Loc Cert.AttnIdeal.nD Cert.AttnIdeal.τ Cert.AttnIdeal.sig) → Buf (Elt Ideal) ℓ) (h : Cert.Pre_AttnIdeal m) :
    Cert.AttnIdeal.Gen.LensOk m := fun c t => len_of_pre _ _ _ _ _ _ (h 0).1 _
theorem lens_B [Cert.Pre_sizes.Facts] (m : (ℓ : Loc Cert.Attn.nD Cert.Attn.τ Cert.Attn.sig) → Buf (Elt Bits) ℓ) (h : Cert.Pre_Attn m) :
    Cert.Attn.Gen.LensOk m := fun c t => len_of_pre _ _ _ _ _ _ (h 0).1 _

end Cert.Own

end
-- ==== Proof.Math.lean ====
module

public import Idealize.ShloMosaic.PureOps.Ideal
public import Idealize.ShloMosaic.PureOps.Ideal.Laws

@[expose] public section

/-! The arithmetic of the attention row over the extended reals: base-two against base-e exponentials, maxima under a
positive factor, and sums read in blocks. -/

noncomputable section

namespace Cert.Own

open Idealize.ShloMosaic

/-- `2^(t c/ln 2 − (m c/ln 2 − 8)) = 256 e^(t c − m c)`, at every extended real `t` and `m`. -/
theorem exp_shift (c : ℝ) (hc : 0 < c) (t m : EReal) :
    Ideal.exp2 (t * ((c * (Real.log 2)⁻¹ : ℝ) : EReal) - (m * ((c * (Real.log 2)⁻¹ : ℝ) : EReal) - ((8 : ℝ) : EReal)))
      = Ideal.exp (t * (c : EReal) - m * (c : EReal)) * ((256 : ℝ) : EReal) := by
  have hl : 0 < Real.log 2 := Real.log_pos (by norm_num)
  have hk : 0 < c * (Real.log 2)⁻¹ := mul_pos hc (inv_pos.mpr hl)
  have h256 : (0 : ℝ) < 256 := by norm_num
  induction t using EReal.rec with
  | bot =>
    rw [EReal.bot_mul_coe_of_pos hk, EReal.bot_mul_coe_of_pos hc, EReal.bot_sub, EReal.bot_sub]
    simp
  | top =>
    induction m using EReal.rec with
    | bot =>
      rw [EReal.top_mul_coe_of_pos hk, EReal.top_mul_coe_of_pos hc, EReal.bot_mul_coe_of_pos hk, EReal.bot_mul_coe_of_pos hc, EReal.bot_sub]
      simp [EReal.top_mul_coe_of_pos h256]
    | top =>
      rw [EReal.top_mul_coe_of_pos hk, EReal.top_mul_coe_of_pos hc]
      rw [show (⊤ : EReal) - ((8 : ℝ) : EReal) = ⊤ from rfl, show (⊤ : EReal) - ⊤ = ⊥ from rfl]
      simp
    | coe m =>
      rw [EReal.top_mul_coe_of_pos hk, EReal.top_mul_coe_of_pos hc, ← EReal.coe_mul, ← EReal.coe_mul, ← EReal.coe_sub, EReal.top_sub_coe, EReal.top_sub_coe]
      simp [EReal.top_mul_coe_of_pos h256]
  | coe t =>
    induction m using EReal.rec with
    | bot =>
      rw [EReal.bot_mul_coe_of_pos hk, EReal.bot_mul_coe_of_pos hc, EReal.bot_sub, ← EReal.coe_mul, ← EReal.coe_mul, EReal.coe_sub_bot, EReal.coe_sub_bot]
      simp [EReal.top_mul_coe_of_pos h256]
    | top =>
      rw [EReal.top_mul_coe_of_pos hk, EReal.top_mul_coe_of_pos hc]
      rw [show (⊤ : EReal) - ((8 : ℝ) : EReal) = ⊤ from rfl, EReal.sub_top, EReal.sub_top]
      simp
    | coe m =>
      simp only [← EReal.coe_mul, ← EReal.coe_sub, Ideal.exp2_coe, Ideal.exp_coe]
      congr 1
      have e8 : (256 : ℝ) = Real.exp (8 * Real.log 2) := by
        rw [mul_comm, Real.exp_mul, Real.exp_log (by norm_num)]; norm_num
      show (2 : ℝ) ^ (t * (c * (Real.log 2)⁻¹) - (m * (c * (Real.log 2)⁻¹) - 8)) = _
      rw [Real.rpow_def_of_pos (by norm_num), e8, ← Real.exp_add]
      congr 1
      field_simp
      ring

/-- A positive real factor comes out of a sum. -/
theorem sum_mul_pos {ι : Type} (s : Finset ι) (f : ι → EReal) (c : ℝ) (hc : 0 < c) (hf : ∀ i, 0 ≤ f i) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg (hf a) (Finset.sum_nonneg fun i _ => hf i), ih]

theorem exp_nonneg (x : EReal) : 0 ≤ Ideal.exp x := by
  induction x using EReal.rec with
  | bot => simp
  | top => simp
  | coe x => rw [Ideal.exp_coe]; exact_mod_cast (Real.exp_pos x).le

/-- A sum over `a b` terms, `b` at a time. -/
theorem sum_range_mul (a b : ℕ) (f : ℕ → EReal) :
    ∑ j ∈ Finset.range (a * b), f j = ∑ i ∈ Finset.range a, ∑ k ∈ Finset.range b, f (i * b + k) := by
  induction a with
  | zero => simp
  | succ a ih => rw [Nat.succ_mul, Finset.sum_range_add, ih, Finset.sum_range_succ]

/-- Lanes first, then blocks and slices: the same sum. -/
theorem sum_lanes (n : ℕ) (f : ℕ → EReal) :
    ∑ c ∈ Finset.range 128, ∑ k ∈ Finset.range n, ∑ s ∈ Finset.range 8, f (k * 1024 + (s * 128 + c))
      = ∑ j ∈ Finset.range (n * 1024), f j := by
  rw [sum_range_mul, Finset.sum_comm]
  refine Finset.sum_congr rfl fun k _ => ?_
  rw [Finset.sum_comm, show (1024 : ℕ) = 8 * 128 from rfl, sum_range_mul 8 128 (fun j => f (k * (8 * 128) + j))]

/-- Terms beyond `N` that vanish may be dropped. -/
theorem sum_range_cut (N M : ℕ) (h : N ≤ M) (f : ℕ → EReal) (hf : ∀ j, N ≤ j → f j = 0) :
    ∑ j ∈ Finset.range N, f j = ∑ j ∈ Finset.range M, f j :=
  Finset.sum_subset (fun x hx => by simp only [Finset.mem_range] at *; omega) fun x _ hx => hf x (by simpa using hx)

/-- A fold of maxima is below `x` when every term is. -/
theorem fold_max_le {n : ℕ} (f : Fin n → EReal) (x : EReal) :
    (Finset.univ.fold max ⊥ f ≤ x) ↔ ∀ i, f i ≤ x := by
  rw [Finset.fold_max_le]; simp

/-- Scaling by a positive real moves across an inequality. -/
theorem mul_pos_le (c : ℝ) (hc : 0 < c) (t x : EReal) : t * (c : EReal) ≤ x ↔ t ≤ x / (c : EReal) :=
  (EReal.le_div_iff_mul_le (by exact_mod_cast hc) (EReal.coe_ne_top c)).symm

end Cert.Own

end
-- ==== Proof.Quant.lean ====
module

public import proofs.«01_k».proof.Proof.Math

@[expose] public section

/-! The power-of-two row scale: the kernel's search of the exponent by comparisons, and the reference's floor of a
logarithm, name the same power of two. -/

set_option maxRecDepth 16384

noncomputable section

namespace Cert.Own

open Idealize.ShloMosaic

/-- One step of the search: the bit `k` is kept when the number with that exponent is still at most `a`. -/
def expStep (k : BitVec 32) (a : EReal) (e : BitVec 32) : BitVec 32 :=
  if Ideal.ofBits .f32 (IntOp.shli ArithUnit.vector (IntOp.addi e k) 23#32) ≤ a then IntOp.addi e k else e
/-- The eight steps. -/
def expWord (a : EReal) : BitVec 32 :=
  expStep 1#32 a (expStep 2#32 a (expStep 4#32 a (expStep 8#32 a (expStep 16#32 a (expStep 32#32 a (expStep 64#32 a (expStep 128#32 a 0#32)))))))
/-- The exponent field, an empty one read as one half's. -/
def fieldWord (e : BitVec 32) : BitVec 32 :=
  Scalar.select (IntOp.cmpi .eq (IntOp.shli ArithUnit.vector e 23#32) 0#32) 1056964608#32 (IntOp.shli ArithUnit.vector e 23#32)
/-- The kernel's scale of a row whose reduced maximum is `a`, -/
def kScaleOf (a : EReal) : EReal := Ideal.ofBits .f32 (IntOp.addi (fieldWord (expWord a)) 8388608#32)
/-- and its inverse. -/
def kInvOf (a : EReal) : EReal := Ideal.ofBits .f32 (IntOp.subi 2122317824#32 (fieldWord (expWord a)))
/-- The reference's exponent of a row whose reduced maximum is `a`. -/
def rExpOf (a : EReal) : EReal :=
  if a < Ideal.ofBits .f32 0x00800000#32 then (0 : EReal)
  else Ideal.liftRound Int.floor (Ideal.div (Ideal.log a) ((Real.log 2 : ℝ) : EReal)) + 1

theorem bits_parts : ∀ x : Fin 256, ((BitVec.ofNat 32 (x.val * 8388608)).extractLsb' 31 1 = 0#1)
    ∧ ((BitVec.ofNat 32 (x.val * 8388608)).extractLsb' 23 8).toNat = x.val
    ∧ ((BitVec.ofNat 32 (x.val * 8388608)).extractLsb' 0 23).toNat = 0 := by decide +kernel

theorem ofBits_pow (x : ℕ) (h1 : 1 ≤ x) (h2 : x ≤ 254) :
    Ideal.ofBits .f32 (BitVec.ofNat 32 (x * 8388608)) = (((2 : ℝ) ^ ((x : ℤ) - 127) : ℝ) : EReal) := by
  obtain ⟨ha, hb, hc⟩ := bits_parts ⟨x, by omega⟩
  dsimp only at ha hb hc
  show Ideal.ieee 8 23 (BitVec.ofNat 32 (x * 8388608)) = _
  unfold Ideal.ieee
  dsimp only
  rw [show 8 + 23 = 31 from rfl, ha, hb, hc, if_neg (by omega), if_neg (by omega)]
  rw [show ((0#1 : BitVec 1) == 1#1) = false from rfl]
  congr 1
  rw [if_neg (by simp), one_mul, show ((2 ^ 23 + 0 : ℕ) : ℝ) = (2 : ℝ) ^ (23 : ℤ) by norm_num, ← zpow_add₀ (by norm_num : (2 : ℝ) ≠ 0)]
  congr 1
  norm_num

theorem ofBits_255 : Ideal.ofBits .f32 (BitVec.ofNat 32 (255 * 8388608)) = ⊤ := by
  obtain ⟨ha, hb, hc⟩ := bits_parts ⟨255, by omega⟩
  dsimp only at ha hb hc
  show Ideal.ieee 8 23 (BitVec.ofNat 32 (255 * 8388608)) = _
  unfold Ideal.ieee
  dsimp only
  rw [show 8 + 23 = 31 from rfl, ha, hb, hc, if_pos (by norm_num), if_pos rfl]
  rfl

theorem shl_word : ∀ x : Fin 256, IntOp.shli ArithUnit.vector (BitVec.ofNat 32 x.val) 23#32 = BitVec.ofNat 32 (x.val * 8388608) := by
  decide +kernel

theorem field_word : ∀ x : Fin 256, fieldWord (BitVec.ofNat 32 x.val) = BitVec.ofNat 32 ((if x.val = 0 then 126 else x.val) * 8388608) := by
  decide +kernel
theorem field_up : ∀ y : Fin 254, IntOp.addi (BitVec.ofNat 32 (y.val * 8388608)) 8388608#32 = BitVec.ofNat 32 ((y.val + 1) * 8388608) := by
  decide +kernel
theorem field_down : ∀ y : Fin 254, IntOp.subi 2122317824#32 (BitVec.ofNat 32 (y.val * 8388608)) = BitVec.ofNat 32 ((253 - y.val) * 8388608) := by
  decide +kernel

/-- The bound the search keeps above `a`. -/
def wUp (x : ℕ) : EReal := if x ≤ 255 then Ideal.ofBits .f32 (BitVec.ofNat 32 (x * 8388608)) else ⊤

/-- One step keeps the bounds, the gap halved. -/
theorem expStep_inv (a : EReal) (x k : ℕ) (hk : 0 < k) (hx : x + 2 * k ≤ 256) (hlo : x = 0 ∨ wUp x ≤ a) (hup : a < wUp (x + 2 * k)) :
    ∃ x', expStep (BitVec.ofNat 32 k) a (BitVec.ofNat 32 x) = BitVec.ofNat 32 x' ∧ x' + k ≤ 256 ∧ (x' = 0 ∨ wUp x' ≤ a) ∧ a < wUp (x' + k) := by
  have hw : IntOp.addi (BitVec.ofNat 32 x) (BitVec.ofNat 32 k) = BitVec.ofNat 32 (x + k) := (BitVec.ofNat_add _ _).symm
  have hv : wUp (x + k) = Ideal.ofBits .f32 (BitVec.ofNat 32 ((x + k) * 8388608)) := if_pos (by omega)
  have hs := shl_word ⟨x + k, by omega⟩
  dsimp only at hs
  unfold expStep
  rw [hw, hs, ← hv]
  by_cases h : wUp (x + k) ≤ a
  · exact ⟨x + k, if_pos h, by omega, .inr h, by rwa [show x + k + k = x + 2 * k by omega]⟩
  · exact ⟨x, if_neg h, by omega, hlo, not_le.mp h⟩

/-- What the search finds. -/
theorem expWord_spec (a : EReal) (ha : a < ⊤) :
    ∃ x, expWord a = BitVec.ofNat 32 x ∧ x + 1 ≤ 256 ∧ (x = 0 ∨ wUp x ≤ a) ∧ a < wUp (x + 1) := by
  obtain ⟨x1, e1, b1, l1, u1⟩ := expStep_inv a 0 128 (by decide) (by decide) (.inl rfl) (by rw [wUp, if_neg (by decide)]; exact ha)
  obtain ⟨x2, e2, b2, l2, u2⟩ := expStep_inv a x1 64 (by decide) b1 l1 u1
  obtain ⟨x3, e3, b3, l3, u3⟩ := expStep_inv a x2 32 (by decide) b2 l2 u2
  obtain ⟨x4, e4, b4, l4, u4⟩ := expStep_inv a x3 16 (by decide) b3 l3 u3
  obtain ⟨x5, e5, b5, l5, u5⟩ := expStep_inv a x4 8 (by decide) b4 l4 u4
  obtain ⟨x6, e6, b6, l6, u6⟩ := expStep_inv a x5 4 (by decide) b5 l5 u5
  obtain ⟨x7, e7, b7, l7, u7⟩ := expStep_inv a x6 2 (by decide) b6 l6 u6
  obtain ⟨x8, e8, b8, l8, u8⟩ := expStep_inv a x7 1 (by decide) b7 l7 u7
  refine ⟨x8, ?_, b8, l8, u8⟩
  unfold expWord
  rw [show (128#32 : BitVec 32) = BitVec.ofNat 32 128 from rfl, show (0#32 : BitVec 32) = BitVec.ofNat 32 0 from rfl, e1]
  rw [show (64#32 : BitVec 32) = BitVec.ofNat 32 64 from rfl, e2, show (32#32 : BitVec 32) = BitVec.ofNat 32 32 from rfl, e3,
    show (16#32 : BitVec 32) = BitVec.ofNat 32 16 from rfl, e4, show (8#32 : BitVec 32) = BitVec.ofNat 32 8 from rfl, e5,
    show (4#32 : BitVec 32) = BitVec.ofNat 32 4 from rfl, e6, show (2#32 : BitVec 32) = BitVec.ofNat 32 2 from rfl, e7,
    show (1#32 : BitVec 32) = BitVec.ofNat 32 1 from rfl, e8]

theorem floor_logb (a : ℝ) (n : ℤ) (h1 : (2 : ℝ) ^ n ≤ a) (h2 : a < (2 : ℝ) ^ (n + 1)) : ⌊Real.log a * (Real.log 2)⁻¹⌋ = n := by
  have hl : 0 < Real.log 2 := Real.log_pos (by norm_num)
  have hp : (0 : ℝ) < (2 : ℝ) ^ n := zpow_pos (by norm_num) n
  have ha : 0 < a := lt_of_lt_of_le hp h1
  rw [Int.floor_eq_iff]
  have e1 : Real.log ((2 : ℝ) ^ n) = n * Real.log 2 := Real.log_zpow 2 n
  have e2 : Real.log ((2 : ℝ) ^ (n + 1)) = (n + 1) * Real.log 2 := by rw [Real.log_zpow]; push_cast; ring
  constructor
  · rw [← div_eq_mul_inv, le_div_iff₀ hl, ← e1]; exact Real.log_le_log hp h1
  · rw [← div_eq_mul_inv, div_lt_iff₀ hl, ← e2]; exact Real.log_lt_log ha h2

/-- Both scales from the exponent field `y` and the reference's exponent `y − 126`. -/
theorem scale_key (a : EReal) (y : ℕ) (hy1 : 1 ≤ y) (hy2 : y ≤ 247) (hf : fieldWord (expWord a) = BitVec.ofNat 32 (y * 8388608))
    (hr : rExpOf a = ((((y : ℤ) - 126 : ℤ) : ℝ) : EReal)) :
    ∃ n : ℤ, kScaleOf a = (((2 : ℝ) ^ n : ℝ) : EReal) ∧ Ideal.exp2 (rExpOf a) = (((2 : ℝ) ^ n : ℝ) : EReal)
      ∧ kInvOf a = (((2 : ℝ) ^ (-n) : ℝ) : EReal) ∧ Ideal.exp2 (0 - rExpOf a) = (((2 : ℝ) ^ (-n) : ℝ) : EReal) := by
  refine ⟨(y : ℤ) - 126, ?_, ?_, ?_, ?_⟩
  · unfold kScaleOf
    rw [hf, show IntOp.addi (BitVec.ofNat 32 (y * 8388608)) 8388608#32 = _ from field_up ⟨y, by omega⟩, ofBits_pow (y + 1) (by omega) (by omega),
      show ((y + 1 : ℕ) : ℤ) - 127 = (y : ℤ) - 126 by omega]
  · rw [hr, Ideal.exp2_coe]
    exact congrArg Real.toEReal (Real.rpow_intCast 2 _)
  · unfold kInvOf
    rw [hf, show IntOp.subi 2122317824#32 (BitVec.ofNat 32 (y * 8388608)) = _ from field_down ⟨y, by omega⟩, ofBits_pow (253 - y) (by omega) (by omega),
      show ((253 - y : ℕ) : ℤ) - 127 = -((y : ℤ) - 126) by omega]
  · rw [hr, ← EReal.coe_zero, ← EReal.coe_sub, zero_sub, ← Int.cast_neg, Ideal.exp2_coe]
    exact congrArg Real.toEReal (Real.rpow_intCast 2 _)

/-- The two scales agree, and are a power of two. -/
theorem scale_agree (a : EReal) (h0 : 0 ≤ a) (h1 : a ≤ (((2 : ℝ) ^ (120 : ℤ) : ℝ) : EReal)) :
    ∃ n : ℤ, kScaleOf a = (((2 : ℝ) ^ n : ℝ) : EReal) ∧ Ideal.exp2 (rExpOf a) = (((2 : ℝ) ^ n : ℝ) : EReal)
      ∧ kInvOf a = (((2 : ℝ) ^ (-n) : ℝ) : EReal) ∧ Ideal.exp2 (0 - rExpOf a) = (((2 : ℝ) ^ (-n) : ℝ) : EReal) := by
  obtain ⟨x, hx, hb, hlo, hup⟩ := expWord_spec a (lt_of_le_of_lt h1 (EReal.coe_lt_top _))
  lift a to ℝ using ⟨(lt_of_le_of_lt h1 (EReal.coe_lt_top _)).ne, (lt_of_lt_of_le EReal.bot_lt_zero h0).ne'⟩ with a
  have h1' : a ≤ (2 : ℝ) ^ (120 : ℤ) := by exact_mod_cast h1
  have hmin : Ideal.ofBits .f32 0x00800000#32 = (((2 : ℝ) ^ (-126 : ℤ) : ℝ) : EReal) := ofBits_pow 1 (by decide) (by decide)
  -- the exponent is far below the top
  have hx247 : x ≤ 247 := by
    rcases hlo with h | h
    · omega
    · by_contra hc
      rw [wUp, if_pos (by omega)] at h
      rcases Nat.lt_or_ge x 255 with h5 | h5
      · rw [ofBits_pow x (by omega) (by omega)] at h
        have h' : (2 : ℝ) ^ ((x : ℤ) - 127) ≤ a := by exact_mod_cast h
        have : (2 : ℝ) ^ (121 : ℤ) ≤ (2 : ℝ) ^ ((x : ℤ) - 127) := zpow_le_zpow_right₀ (by norm_num) (by omega)
        have h3 : (2 : ℝ) ^ (120 : ℤ) < (2 : ℝ) ^ (121 : ℤ) := zpow_lt_zpow_right₀ (by norm_num) (by norm_num)
        linarith
      · obtain rfl : x = 255 := by omega
        rw [ofBits_255] at h
        exact absurd h (not_le.mpr (EReal.coe_lt_top _))
  have hup' : a < (2 : ℝ) ^ ((x : ℤ) + 1 - 127) := by
    rw [wUp, if_pos (by omega), ofBits_pow (x + 1) (by omega) (by omega)] at hup
    have := EReal.coe_lt_coe_iff.mp hup
    push_cast at this
    exact this
  have key := scale_key (a : EReal)
  have hf : fieldWord (BitVec.ofNat 32 x) = BitVec.ofNat 32 ((if x = 0 then 126 else x) * 8388608) := field_word ⟨x, by omega⟩
  by_cases hx0 : x = 0
  · subst hx0
    rw [if_pos rfl] at hf
    refine key 126 (by decide) (by decide) (by rw [hx]; exact hf) ?_
    rw [rExpOf, hmin, if_pos]
    · simp
    · rw [EReal.coe_lt_coe_iff]; simpa using hup'
  · rw [if_neg hx0] at hf
    refine key x (by omega) hx247 (by rw [hx]; exact hf) ?_
    rcases hlo with h | h
    · exact absurd h hx0
    rw [wUp, if_pos (by omega), ofBits_pow x (by omega) (by omega)] at h
    have h' : (2 : ℝ) ^ ((x : ℤ) - 127) ≤ a := by exact_mod_cast h
    have hpos : 0 < a := lt_of_lt_of_le (zpow_pos (by norm_num) _) h'
    have h126 : (2 : ℝ) ^ (-126 : ℤ) ≤ a := le_trans (zpow_le_zpow_right₀ (by norm_num) (by omega)) h'
    have hl : Real.log 2 ≠ 0 := (Real.log_pos (by norm_num)).ne'
    rw [rExpOf, hmin, if_neg (by rw [EReal.coe_lt_coe_iff]; exact not_lt.mpr h126), Ideal.log_coe, if_neg (not_le.mpr hpos), Ideal.div,
      if_neg (by exact_mod_cast hl), ← EReal.coe_inv, ← EReal.coe_mul]
    show ((⌊Real.log a * (Real.log 2)⁻¹⌋ : ℝ) : EReal) + 1 = _
    rw [floor_logb a ((x : ℤ) - 127) h' (by rw [show (x : ℤ) - 127 + 1 = x + 1 - 127 by ring]; exact hup'), ← EReal.coe_one, ← EReal.coe_add]
    exact congrArg Real.toEReal (by push_cast; ring)

end Cert.Own

end
-- ==== Proof.Row.lean ====
module

public import proofs.«01_k».proof.Proof.Math
public import proofs.«01_k».proof.Proof.Quant

@[expose] public section

/-! One query row of the attention: what the kernel computes of it block by block, what the reference computes of it
in one sweep, and why the two are one number. -/

set_option maxRecDepth 16384

noncomputable section

namespace Cert.Own

open Idealize.ShloMosaic Idealize.ShloMosaic.TcCoe Idealize.SL.Sem

/-- A key's place in its array. -/
def key (j : ℕ) : Fin 32768 := ⟨j % 32768, Nat.mod_lt _ (by decide)⟩

/-- The reduced maximum of a query row. -/
def rowA (q : Fin 128 → EReal) : EReal :=
  Finset.univ.fold max (Ideal.ofBits .f32 4286578688#32) (fun x => FloatOps.absf (F := Ideal) (φ := .f32) (q x)) * Ideal.ofBits .f32 991054117#32

/-- A code: the row times the inverse scale, clipped. -/
def code (q : Fin 128 → EReal) (inv : EReal) (d : Fin 128) : EReal :=
  min (Ideal.ofBits .f32 1138753536#32) (max (Ideal.ofBits .f32 3286237184#32) (q d * inv))

/-- A key's score before the row's factor, masked past the sequence's end. -/
def score (qc : Fin 128 → EReal) (K : Fin 32768 → Fin 128 → EReal) (S : Fin 32768 → EReal) (len j : ℕ) : EReal :=
  if j < len then (∑ x, qc x * K (key j) x) * S (key j) else ⊥

theorem score_past {qc K S len j} (h : len ≤ j) : score qc K S len j = ⊥ := if_neg (by omega)

/-- A weight as a code. -/
def wcode (x : EReal) : EReal := min (Ideal.ofBits .f32 1138753536#32) (max 0 x)

/-- The kernel's weight of a key: its score against what the row subtracts. -/
def kW (μ o : EReal) (T : ℕ → EReal) (j : ℕ) : EReal := Ideal.exp2 (T j * μ - o)

theorem c448_nonneg : (0 : EReal) ≤ Ideal.ofBits .f32 1138753536#32 := by
  show (0 : EReal) ≤ Ideal.ieee 8 23 1138753536#32
  unfold Ideal.ieee
  simp
  positivity
theorem cNegInf : Ideal.ofBits .f32 4286578688#32 = ⊥ := by
  show Ideal.ieee 8 23 4286578688#32 = _
  unfold Ideal.ieee
  simp
theorem c256 : Ideal.ofBits .f32 1132462080#32 = ((256 : ℝ) : EReal) := by
  rw [show (1132462080#32 : BitVec 32) = BitVec.ofNat 32 (135 * 8388608) from rfl, ofBits_pow 135 (by decide) (by decide)]
  norm_num
theorem c8 : Ideal.ofBits .f32 1090519040#32 = ((8 : ℝ) : EReal) := by
  rw [show (1090519040#32 : BitVec 32) = BitVec.ofNat 32 (130 * 8388608) from rfl, ofBits_pow 130 (by decide) (by decide)]
  norm_num
theorem cInv256 : Ideal.ofBits .f32 998244352#32 = (((256 : ℝ)⁻¹ : ℝ) : EReal) := by
  rw [show (998244352#32 : BitVec 32) = BitVec.ofNat 32 (119 * 8388608) from rfl, ofBits_pow 119 (by decide) (by decide)]
  norm_num

theorem wcode_zero : wcode 0 = 0 := by unfold wcode; rw [max_self]; exact min_eq_right c448_nonneg

/-- The row maximum and the scaled one. -/
theorem max_scaled (c : ℝ) (hc : 0 < c) (T : ℕ → EReal) (N len : ℕ) (h1 : len ≤ N) (h2 : N ≤ 32768) (hT : ∀ j, len ≤ j → T j = ⊥)
    (m M : EReal) (hm : ∀ x, m ≤ x ↔ ∀ j < N, T j ≤ x) (hM : ∀ x, M ≤ x ↔ ∀ j < 32768, T j * (c : EReal) ≤ x) :
    M = m * (c : EReal) := by
  apply eq_of_forall_ge_iff
  intro x
  rw [hM, mul_pos_le c hc, hm]
  constructor
  · intro h j hj; exact (mul_pos_le c hc _ _).mp (h j (by omega))
  · intro h j _
    rw [mul_pos_le c hc]
    by_cases hj : j < N
    · exact h j hj
    · rw [hT j (by omega)]; exact bot_le

/-- The kernel's weight is 256 times the reference's. -/
theorem weight_eq (c : ℝ) (hc : 0 < c) (T : ℕ → EReal) (m : EReal) (j : ℕ) :
    kW ((c * (Real.log 2)⁻¹ : ℝ) : EReal) (m * ((c * (Real.log 2)⁻¹ : ℝ) : EReal) - ((8 : ℝ) : EReal)) T j
      = Ideal.exp (T j * (c : EReal) - m * (c : EReal)) * ((256 : ℝ) : EReal) := exp_shift c hc _ _

theorem bot_mul_pos (c : ℝ) (hc : 0 < c) : (⊥ : EReal) * (c : EReal) = ⊥ := EReal.bot_mul_coe_of_pos hc

theorem weight_past (c : ℝ) (hc : 0 < c) (M : EReal) : Ideal.exp ((⊥ : EReal) * (c : EReal) - M) = 0 := by
  rw [bot_mul_pos c hc, sub_eq_add_neg, EReal.bot_add]; simp

/-- The row sums agree, -/
theorem sum_eq (c : ℝ) (hc : 0 < c) (T : ℕ → EReal) (N len : ℕ) (h1 : len ≤ N) (h2 : N ≤ 32768) (hT : ∀ j, len ≤ j → T j = ⊥) (m : EReal) :
    (∑ j ∈ Finset.range N, kW ((c * (Real.log 2)⁻¹ : ℝ) : EReal) (m * ((c * (Real.log 2)⁻¹ : ℝ) : EReal) - ((8 : ℝ) : EReal)) T j)
        * (((256 : ℝ)⁻¹ : ℝ) : EReal)
      = ∑ j ∈ Finset.range 32768, Ideal.exp (T j * (c : EReal) - m * (c : EReal)) := by
  rw [← sum_range_cut N 32768 h2 _ (fun j hj => by rw [hT j (by omega)]; exact weight_past c hc _)]
  simp only [weight_eq c hc]
  rw [← sum_mul_pos _ _ 256 (by norm_num) (fun i => exp_nonneg _), mul_assoc, ← EReal.coe_mul]
  norm_num

/-- and so do the accumulated values. -/
theorem acc_eq (c : ℝ) (hc : 0 < c) (T V : ℕ → EReal) (N len : ℕ) (h1 : len ≤ N) (h2 : N ≤ 32768) (hT : ∀ j, len ≤ j → T j = ⊥) (m : EReal) :
    ∑ j ∈ Finset.range N, wcode (kW ((c * (Real.log 2)⁻¹ : ℝ) : EReal) (m * ((c * (Real.log 2)⁻¹ : ℝ) : EReal) - ((8 : ℝ) : EReal)) T j) * V j
      = ∑ j ∈ Finset.range 32768, wcode (Ideal.exp (T j * (c : EReal) - m * (c : EReal)) * ((256 : ℝ) : EReal)) * V j := by
  rw [← sum_range_cut N 32768 h2 _ (fun j hj => by rw [hT j (by omega), weight_past c hc, zero_mul, wcode_zero, zero_mul])]
  simp only [weight_eq c hc]

/-! ## The reference's row -/

/-- The reference's scale of a row, and its inverse. -/
def refScale (q : Fin 128 → EReal) : EReal := Ideal.exp2 (rExpOf (rowA q))
def refInv (q : Fin 128 → EReal) : EReal := Ideal.exp2 (0 - rExpOf (rowA q))

section ref
variable (q : Fin 128 → EReal) (K : Fin 32768 → Fin 128 → EReal) (S : Fin 32768 → EReal) (V : Fin 32768 → Fin 128 → EReal)
  (vs : Fin 128 → EReal) (len : ℕ)

/-- The masked, scaled scores, -/
def refS (j : Fin 32768) : EReal :=
  if j.val < len then (∑ x, code q (refInv q) x * K j x) * refScale q * S j * (((Real.sqrt 128)⁻¹ : ℝ) : EReal) else ⊥
/-- their maximum, -/
def refM : EReal := Finset.univ.fold max ⊥ (refS q K S len)
/-- the weights, -/
def refP (j : Fin 32768) : EReal := Ideal.exp (refS q K S len j - refM q K S len)
/-- and the output. -/
def refOut (d : Fin 128) : EReal :=
  Ideal.div ((∑ j, wcode (refP q K S len j * ((256 : ℝ) : EReal)) * V j d) * (((256 : ℝ)⁻¹ : ℝ) : EReal) * vs d) (∑ j, refP q K S len j)

/-- What the kernel computes of the row with `N` keys' worth of blocks, `m` its maximum and `μ` its factor. -/
def kerOut (N : ℕ) (μ m : EReal) (T : ℕ → EReal) (d : Fin 128) : EReal :=
  Ideal.div ((∑ j ∈ Finset.range N, wcode (kW μ (m * μ - ((8 : ℝ) : EReal)) T j) * V (key j) d) * (((256 : ℝ)⁻¹ : ℝ) : EReal) * vs d)
    ((∑ j ∈ Finset.range N, kW μ (m * μ - ((8 : ℝ) : EReal)) T j) * (((256 : ℝ)⁻¹ : ℝ) : EReal))

theorem key_val (j : Fin 32768) : key j.val = j := by apply Fin.ext; show j.val % 32768 = j.val; omega

/-- The two rows are one. -/
theorem row_eq (N : ℕ) (h1 : len ≤ N) (h2 : N ≤ 32768) (ha0 : 0 ≤ rowA q) (ha : rowA q ≤ (((2 : ℝ) ^ (120 : ℤ) : ℝ) : EReal)) (m : EReal)
    (hm : ∀ x, m ≤ x ↔ ∀ j < N, score (code q (kInvOf (rowA q))) K S len j ≤ x) (d : Fin 128) :
    kerOut V vs N (kScaleOf (rowA q) * (((Real.sqrt 128)⁻¹ * (Real.log 2)⁻¹ : ℝ) : EReal)) m (score (code q (kInvOf (rowA q))) K S len) d
      = refOut q K S V vs len d := by
  obtain ⟨n, e1, e2, e3, e4⟩ := scale_agree (rowA q) ha0 ha
  have hs : refScale q = ((2 : ℝ) ^ n : ℝ) := e2
  have hi : refInv q = kInvOf (rowA q) := by rw [e3]; exact e4
  have hp : (0 : ℝ) < (2 : ℝ) ^ n := by positivity
  have hq : (0 : ℝ) < (Real.sqrt 128)⁻¹ := inv_pos.mpr (Real.sqrt_pos.mpr (by norm_num))
  have hc : 0 < (2 : ℝ) ^ n * (Real.sqrt 128)⁻¹ := mul_pos hp hq
  generalize hcc : (2 : ℝ) ^ n * (Real.sqrt 128)⁻¹ = c at hc
  have hμ : kScaleOf (rowA q) * (((Real.sqrt 128)⁻¹ * (Real.log 2)⁻¹ : ℝ) : EReal) = ((c * (Real.log 2)⁻¹ : ℝ) : EReal) := by
    rw [e1, ← EReal.coe_mul, ← mul_assoc, hcc]
  rw [hμ]
  generalize hT : score (code q (kInvOf (rowA q))) K S len = T at hm
  have hTp : ∀ j, len ≤ j → T j = ⊥ := fun j hj => by rw [← hT]; exact score_past hj
  have hS : ∀ j : Fin 32768, refS q K S len j = T j.val * (c : EReal) := fun j => by
    rw [← hT]
    unfold refS score
    split_ifs
    · rw [hs, hi, key_val, ← hcc, EReal.coe_mul]
      ac_rfl
    · exact (bot_mul_pos c hc).symm
  have hM : refM q K S len = m * (c : EReal) := by
    refine max_scaled c hc T N len h1 h2 hTp m _ hm fun x => ?_
    unfold refM
    rw [fold_max_le]
    simp only [hS]
    exact ⟨fun h j hj => h ⟨j, hj⟩, fun h j => h j.val j.isLt⟩
  have hP : ∀ j : Fin 32768, refP q K S len j = Ideal.exp (T j.val * (c : EReal) - m * (c : EReal)) := fun j => by
    unfold refP; rw [hS, hM]
  unfold kerOut refOut
  rw [sum_eq c hc T N len h1 h2 hTp m, acc_eq c hc T (fun j => V (key j) d) N len h1 h2 hTp m]
  simp only [hP]
  rw [Finset.sum_range, Finset.sum_range]
  simp only [key_val]

end ref

end Cert.Own

end
-- ==== Proof.Arr.lean ====
module

public import proofs.«01_k».proof.Proof.Row
public import Idealize.ShloMosaic.Lib.Pointwise.Index

@[expose] public section

/-! The three result arrays, as functions of the argument arrays: row by row what `Row` says of one row. -/

noncomputable section

namespace Cert.Own

open Idealize.ShloMosaic

/-- The array of the queries: two batches, 6144 rows, 128 lanes. -/
abbrev QS : Shape := ⟨3, ![2, 6144, 128]⟩
/-- The array of the key (or value) codes. -/
abbrev KS : Shape := ⟨3, ![2, 32768, 128]⟩
/-- The array of the key scales. -/
abbrev SS : Shape := ⟨3, ![2, 1, 32768]⟩
/-- The array of the value scales. -/
abbrev ZS : Shape := ⟨3, ![2, 8, 128]⟩
/-- The array of the query scales. -/
abbrev RS : Shape := ⟨3, ![2, 1, 6144]⟩

/-- Row `r` of batch `b` of the queries. -/
def qOf (Q : QS.Idx → EReal) (b : Fin 2) (r : Fin 6144) : Fin 128 → EReal := fun d => Q (ix3 b r d)

/-- The query scales. -/
def arrScale (Q : QS.Idx → EReal) : RS.Idx → EReal := fun i => refScale (qOf Q (i 0) (i 2))

/-- The query codes. -/
def arrCodes (Q : QS.Idx → EReal) : QS.Idx → EReal := fun i => code (qOf Q (i 0) (i 1)) (refInv (qOf Q (i 0) (i 1))) (i 2)

/-- The attention output at one element. -/
def outAt (Q : QS.Idx → EReal) (K V : KS.Idx → EReal) (S : SS.Idx → EReal) (Z : ZS.Idx → EReal)
    (len : ℕ) (b : Fin 2) (r : Fin 6144) (d : Fin 128) : EReal :=
  refOut (qOf Q b r) (fun j e => K (ix3 b j e)) (fun j => S (ix3 b 0 j)) (fun j e => V (ix3 b j e)) (fun e => Z (ix3 b 0 e)) len d

/-- The attention output. -/
def arrOut (L : (⟨1, ![2]⟩ : Shape).Idx → BitVec 32) (Q : QS.Idx → EReal) (K V : KS.Idx → EReal) (S : SS.Idx → EReal) (Z : ZS.Idx → EReal) :
    QS.Idx → EReal := fun i => outAt Q K V S Z (L (ix1 (i 0))).toNat (i 0) (i 1) (i 2)

end Cert.Own

end
-- ==== Proof.PreQ.lean ====
module

public import proofs.«01_k».proof.Proof.Pre
public import proofs.«01_k».proof.Proof.Arr

@[expose] public section

/-! The precondition read: the queries are numbers below the top of their format, so every row's reduced maximum is a number
between zero and 2 ^ 120. -/

set_option maxRecDepth 16384

noncomputable section

namespace Cert.Own

open Idealize.ShloMosaic Idealize.SL.Sem

theorem cTop : Ideal.ofBits .f32 0x7F7F0000#32 = (((255 * 2 ^ 120 : ℝ)) : EReal) := by
  have ha : (0x7F7F0000#32 : BitVec 32).extractLsb' 31 1 = 0#1 := by decide
  have hb : ((0x7F7F0000#32 : BitVec 32).extractLsb' 23 8).toNat = 254 := by decide
  have hc : ((0x7F7F0000#32 : BitVec 32).extractLsb' 0 23).toNat = 8323072 := by decide
  show Ideal.ieee 8 23 0x7F7F0000#32 = _
  unfold Ideal.ieee
  dsimp only
  rw [show 8 + 23 = 31 from rfl, ha, hb, hc, if_neg (by omega), if_neg (by omega)]
  rw [show ((0#1 : BitVec 1) == 1#1) = false from rfl]
  refine congrArg Real.toEReal ?_
  rw [if_neg (by simp)]
  norm_num

theorem cInv448 : Ideal.ofBits .f32 991054117#32 = (((9586981 / 2 ^ 32 : ℝ)) : EReal) := by
  have ha : (991054117#32 : BitVec 32).extractLsb' 31 1 = 0#1 := by decide
  have hb : ((991054117#32 : BitVec 32).extractLsb' 23 8).toNat = 118 := by decide
  have hc : ((991054117#32 : BitVec 32).extractLsb' 0 23).toNat = 1198373 := by decide
  show Ideal.ieee 8 23 991054117#32 = _
  unfold Ideal.ieee
  dsimp only
  rw [show 8 + 23 = 31 from rfl, ha, hb, hc, if_neg (by omega), if_neg (by omega)]
  rw [show ((0#1 : BitVec 1) == 1#1) = false from rfl]
  refine congrArg Real.toEReal ?_
  rw [if_neg (by simp)]
  norm_num

theorem abs_of_cmp (x : EReal) (h : FloatOps.cmpf (F := Ideal) (φ := .f32) .ole (FloatOps.absf (F := Ideal) (φ := .f32) x) (Ideal.ofBits .f32 0x7F7F0000#32) = 1#1) :
    FloatOps.absf (F := Ideal) (φ := .f32) x ≤ (((255 * 2 ^ 120 : ℝ)) : EReal) := by
  rw [← cTop]
  by_contra hn
  refine absurd h ?_
  show ¬ Ideal.cmp .ole _ _ = 1#1
  unfold Ideal.cmp
  simp only [hn]
  decide

theorem absf_nonneg (x : EReal) : 0 ≤ FloatOps.absf (F := Ideal) (φ := .f32) x := by
  show 0 ≤ max x (-x)
  rcases le_total 0 x with h | h
  · exact le_max_of_le_left h
  · exact le_max_of_le_right (by simpa using h)

theorem rowA_bound (q : Fin 128 → EReal) (h : ∀ d, FloatOps.absf (F := Ideal) (φ := .f32) (q d) ≤ (((255 * 2 ^ 120 : ℝ)) : EReal)) :
    0 ≤ rowA q ∧ rowA q ≤ (((2 : ℝ) ^ (120 : ℤ) : ℝ) : EReal) := by
  unfold rowA
  generalize hM : Finset.univ.fold max (Ideal.ofBits .f32 4286578688#32) (fun x => FloatOps.absf (F := Ideal) (φ := .f32) (q x)) = M
  have h0 : 0 ≤ M := by
    rw [← hM, Finset.le_fold_max]
    exact Or.inr ⟨0, Finset.mem_univ _, absf_nonneg _⟩
  have h1 : M ≤ (((255 * 2 ^ 120 : ℝ)) : EReal) := by
    rw [← hM, Finset.fold_max_le, cNegInf]
    exact ⟨bot_le, fun d _ => h d⟩
  rw [cInv448]
  lift M to ℝ using ⟨(lt_of_le_of_lt h1 (EReal.coe_lt_top _)).ne, (lt_of_lt_of_le EReal.bot_lt_zero h0).ne'⟩
  have h0' : 0 ≤ M := by exact_mod_cast h0
  have h1' : M ≤ 255 * 2 ^ 120 := by exact_mod_cast h1
  rw [← EReal.coe_mul]
  constructor
  · have : (0 : ℝ) ≤ M * (9586981 / 2 ^ 32) := by positivity
    exact_mod_cast this
  · have : M * (9586981 / 2 ^ 32) ≤ (2 : ℝ) ^ (120 : ℤ) := by
      have : M * (9586981 / 2 ^ 32) ≤ 255 * 2 ^ 120 * (9586981 / 2 ^ 32) := by gcongr
      refine this.trans ?_
      norm_num
    exact EReal.coe_le_coe_iff.2 this

theorem q_of_pre [Cert.Pre_sizes.Facts] (a0 : IVec Cert.Pre_sizes.S2 32)
    (a1 : FVec Ideal Cert.Pre_sizes.S2x6144x128 .bf16) (a2 : FVec Ideal Cert.Pre_sizes.S2x32768x128 .fp8e4m3) (a3 : FVec Ideal Cert.Pre_sizes.S2x1x32768 .f32)
    (a4 : FVec Ideal Cert.Pre_sizes.S2x32768x128 .fp8e4m3) (a5 : FVec Ideal Cert.Pre_sizes.S2x8x128 .f32)
    (h : (Cert.Pre_sizes.fn a0 a1 a2 a3 a4 a5).2 = fun _ => 1#1) (b : Fin 2) (r : Fin 6144) :
    0 ≤ rowA (qOf a1 b r) ∧ rowA (qOf a1 b r) ≤ (((2 : ℝ) ^ (120 : ℤ) : ℝ) : EReal) :=
  rowA_bound _ fun d => abs_of_cmp _ (congrFun h (ix3 b r d))

end Cert.Own

end
-- ==== Proof.KI.Read.lean ====
module

public import proofs.«01_k».proof.Proof.KI.Fun
public import proofs.«01_k».proof.Proof.Row
public import Idealize.ShloMosaic.Lib.Pointwise

@[expose] public section

/-! The attention kernel's values read at an index, over the extended reals. -/

set_option maxRecDepth 16384

noncomputable section

namespace Cert.AttnIdeal.Gen

open Idealize.ShloMosaic Idealize.ShloMosaic.TcCoe Idealize.SL.Sem Cert.Own

/-! ## The blocks cut from the arrays -/

theorem rowsK_at (x : Vec Ideal S1x32768x128 .fp8e4m3) (k : ℕ) (c : Fin 1024) (d : Fin 128) :
    rowsK (F := Ideal) x k (ix3 0 c d) = x (ix3 0 (key (1024 * k + c.val)) d) := rfl
theorem colsS_at (x : Vec Ideal S1x1x32768 .f32) (k : ℕ) (c : Fin 1024) :
    colsS (F := Ideal) x k (ix3 0 0 c) = x (ix3 0 0 (key (1024 * k + c.val))) := rfl
theorem lanes_at (x : Vec Ideal S1x256x1024 .f32) (y : ℕ) (r : Fin 256) (c : Fin 128) :
    lanes (F := Ideal) x y (ix3 0 r c) = x (ix3 0 r ⟨(y + c.val) % 1024, Nat.mod_lt _ (by decide)⟩) := rfl
theorem row0_at (x : Vec Ideal S1x8x128 .f32) (d : Fin 128) : row0 (F := Ideal) x (ix3 0 0 d) = x (ix3 0 0 d) := rfl

variable (x0 : Vec Ideal S1x256x128 .bf16) (x1 : Vec Ideal S1x32768x128 .fp8e4m3) (x2 : Vec Ideal S1x1x32768 .f32)
  (x3 : Vec Ideal S1x32768x128 .fp8e4m3) (x4 : Vec Ideal S1x8x128 .f32) (v1 : BitVec 32)

/-- A query row. -/
def qRow (r : Fin 256) : Fin 128 → EReal := fun d => x0 (ix3 0 r d)

/-! ## The quantiser -/

theorem pay36_at (r : Fin 256) : k0_pay36 (F := Ideal) x0 (ix2 r (0 : Fin 1)) = rowA (qRow x0 r) := by
  pointwise [k0_pay36, k0_pay35]
  rfl

/-- One step of the exponent's search, on a column. -/
def vStep (k : BitVec 32) (a : FVec Ideal S256x1 .f32) (e : IVec S256x1 32) : IVec S256x1 32 :=
  select (cmpf .oge a (bitcastToFloat .f32 (shli (addi e (broadcast S256x1 k)) (broadcast S256x1 23#32)))) (addi e (broadcast S256x1 k)) e
theorem pay38_eq (a : FVec Ideal S256x1 .f32) (e : IVec S256x1 32) :
    k0_pay38 (F := Ideal) a e = vStep 1#32 a (vStep 2#32 a (vStep 4#32 a (vStep 8#32 a (vStep 16#32 a e)))) := rfl
theorem pay37_eq : k0_pay37 (F := Ideal) x0
    = vStep 32#32 (k0_pay36 x0) (vStep 64#32 (k0_pay36 x0) (vStep 128#32 (k0_pay36 x0) (broadcast S256x1 0#32))) := rfl
theorem vStep_at (k : BitVec 32) (a : FVec Ideal S256x1 .f32) (e : IVec S256x1 32) (r : Fin 256) :
    vStep k a e (ix2 r (0 : Fin 1)) = expStep k (a (ix2 r 0)) (e (ix2 r 0)) := by
  pointwise [vStep]
  rfl

theorem kExp_at (r : Fin 256) : kExp (F := Ideal) x0 (ix2 r (0 : Fin 1)) = expWord (rowA (qRow x0 r)) := by
  unfold kExp
  rw [pay38_eq, pay37_eq]
  simp only [vStep_at, pay36_at]
  rfl

theorem pay41_at (q : FVec Ideal S256x128 .f32) (e : IVec S256x1 32) (r : Fin 256) (d : Fin 128) :
    k0_pay41 (F := Ideal) q e (ix3 0 r d) = code (fun d => q (ix2 r d)) (Ideal.ofBits .f32 (IntOp.subi 2122317824#32 (fieldWord (e (ix2 r 0))))) d := by
  pointwise [k0_pay41, k0_pay39]
  rfl

theorem kCodes_at (r : Fin 256) (d : Fin 128) : kCodes (F := Ideal) x0 (ix3 0 r d) = code (qRow x0 r) (kInvOf (rowA (qRow x0 r))) d := by
  unfold kCodes
  rw [pay41_at, kExp_at]
  have : (fun d => k0_pay35 (F := Ideal) x0 (ix2 r d)) = qRow x0 r := by
    funext d; pointwise [k0_pay35]; rfl
  rw [this]; rfl

theorem pay40_at (e : IVec S256x1 32) (r : Fin 256) :
    k0_pay40 (F := Ideal) e (ix2 r 0) = Ideal.ofBits .f32 (IntOp.addi (fieldWord (e (ix2 r 0))) 8388608#32) := by
  pointwise [k0_pay40, k0_pay39]
  rfl

theorem sum_pick (f : Fin 128 → EReal) (k : Fin 128) (w : ℕ) (hw : w = k.val) :
    (∑ x : Fin 128, Scalar.select (IntOp.cmpi CmpIPredicate.eq (BitVec.ofNat 32 x.val) (BitVec.ofNat 32 w)) (f x) 0) = f k := by
  rw [Finset.sum_eq_single k]
  · subst hw
    have : IntOp.cmpi CmpIPredicate.eq (BitVec.ofNat 32 k.val) (BitVec.ofNat 32 k.val) = 1#1 := by
      show BitVec.ofBool (BitVec.ofNat 32 k.val == BitVec.ofNat 32 k.val) = 1#1
      simp
    rw [this]; rfl
  · intro x _ hx
    have : IntOp.cmpi CmpIPredicate.eq (BitVec.ofNat 32 x.val) (BitVec.ofNat 32 w) = 0#1 := by
      show BitVec.ofBool (BitVec.ofNat 32 x.val == BitVec.ofNat 32 w) = 0#1
      have : BitVec.ofNat 32 x.val ≠ BitVec.ofNat 32 w := by
        intro h
        have h' := congrArg BitVec.toNat h
        simp only [BitVec.toNat_ofNat] at h'
        apply hx; apply Fin.ext; omega
      rw [beq_eq_false_iff_ne.mpr this]; rfl
    rw [this]; rfl
  · intro h; exact absurd (Finset.mem_univ _) h

set_option maxHeartbeats 2000000 in
theorem pay42_at (e : IVec S256x1 32) (r : Fin 256) : k0_pay42 (F := Ideal) e (ix2 (0 : Fin 1) r) = k0_pay40 (F := Ideal) e (ix2 r 0) := by
  pointwise [k0_pay42]
  split_ifs with h
  · exact sum_pick (fun x => k0_pay40 (F := Ideal) e (ix2 ⟨x.val, by omega⟩ 0)) ⟨r.val, h⟩ _ rfl
  · rw [sum_pick (fun x => k0_pay40 (F := Ideal) e (ix2 ⟨128 + x.val, by omega⟩ 0)) ⟨r.val - 128, by omega⟩ _ rfl]
    congr 2
    apply Fin.ext; dsimp only; omega

theorem pay43_at (e : FVec Ideal S1x256 .f32) (r : Fin 256) : k0_pay43 (F := Ideal) e (ix3 (0 : Fin 1) (0 : Fin 1) r) = e (ix2 0 r) := by
  pointwise [k0_pay43]

theorem kScale_at (r : Fin 256) : kScale (F := Ideal) x0 (ix3 0 0 r) = kScaleOf (rowA (qRow x0 r)) := by
  unfold kScale
  rw [pay43_at, pay42_at, pay40_at, kExp_at]; rfl

theorem pay44_at (e : FVec Ideal S256x1 .f32) (r : Fin 256) (d : Fin 128) :
    k0_pay44 (F := Ideal) e (ix2 r d) = e (ix2 r 0) * ((((Real.sqrt 128)⁻¹ * (Real.log 2)⁻¹ : ℝ)) : EReal) := by
  pointwise [k0_pay44]
  congr 1

/-- The factor of a row's scores. -/
def rowMu (q : Fin 128 → EReal) : EReal := kScaleOf (rowA q) * ((((Real.sqrt 128)⁻¹ * (Real.log 2)⁻¹ : ℝ)) : EReal)

theorem kMul_at (r : Fin 256) (d : Fin 128) : kMul (F := Ideal) x0 (ix2 r d) = rowMu (qRow x0 r) := by
  unfold kMul
  rw [pay44_at, pay40_at, kExp_at]; rfl

/-! ## The scores -/

/-- A row's masked scores, by key. -/
def kScore (r : Fin 256) (j : ℕ) : EReal :=
  score (code (qRow x0 r) (kInvOf (rowA (qRow x0 r)))) (fun j d => x1 (ix3 0 j d)) (fun j => x2 (ix3 0 0 j)) v1.toNat j

theorem pay48_at (q : Vec Ideal S1x256x128 .fp8e4m3) (k : Vec Ideal S1x1024x128 .fp8e4m3) (s : Vec Ideal S1x1x1024 .f32) (r : Fin 256) (c : Fin 1024) :
    k0_pay48 (F := Ideal) q k s (ix2 r c) = (∑ x, q (ix3 0 r x) * k (ix3 0 c x)) * s (ix3 0 0 c) := by
  pointwise [k0_pay48]

theorem pay49_at (q : Vec Ideal S1x256x128 .fp8e4m3) (k : Vec Ideal S1x1024x128 .fp8e4m3) (s : Vec Ideal S1x1x1024 .f32) (r : Fin 256) (c : Fin 1024) :
    k0_pay49 (F := Ideal) q k s (ix3 0 r c) = k0_pay48 (F := Ideal) q k s (ix2 r c) := by
  pointwise [k0_pay49]

theorem pay55_at (w u : BitVec 32) (q : Vec Ideal S1x256x128 .fp8e4m3) (k : Vec Ideal S1x1024x128 .fp8e4m3) (s : Vec Ideal S1x1x1024 .f32) (r : Fin 256) (c : Fin 1024) :
    k0_pay55 (F := Ideal) w u (k0_pay54 q) k s (ix2 r c)
      = Scalar.select (IntOp.cmpi .slt (IntOp.addi (BitVec.ofNat 32 c.val) u) w) ((∑ x, q (ix3 0 r x) * k (ix3 0 c x)) * s (ix3 0 0 c)) ⊥ := by
  pointwise [k0_pay55, k0_pay54]
  rw [cNegInf]

theorem pay56_at (w u : BitVec 32) (q : FVec Ideal S256x128 .fp8e4m3) (k : Vec Ideal S1x1024x128 .fp8e4m3) (s : Vec Ideal S1x1x1024 .f32) (r : Fin 256) (c : Fin 1024) :
    k0_pay56 (F := Ideal) w u q k s (ix3 0 r c) = k0_pay55 (F := Ideal) w u q k s (ix2 r c) := by
  pointwise [k0_pay56]

theorem mask_word (h : LenOk v1) (c : ℕ) (hc : c < 1024) :
    IntOp.cmpi .slt (IntOp.addi (BitVec.ofNat 32 c) (kBase v1)) v1 = BitVec.ofBool (decide (1024 * (nBlk v1 - 1) + c < v1.toNat)) := by
  have hl := h.le
  have hp := h.pos
  have hb : kBase v1 = BitVec.ofNat 32 (1024 * (nBlk v1 - 1)) := by
    unfold kBase
    rw [word_v3 v1 h, word_sub1 h.pos h.le, word_mul1024 (by omega)]
  have ha : IntOp.addi (BitVec.ofNat 32 c) (kBase v1) = BitVec.ofNat 32 (c + 1024 * (nBlk v1 - 1)) := by
    rw [hb]; exact (BitVec.ofNat_add _ _).symm
  rw [ha]
  show BitVec.ofBool (decide ((BitVec.ofNat 32 (c + 1024 * (nBlk v1 - 1))).toInt < v1.toInt)) = _
  unfold LenOk at h
  rw [WordCmp.toInt_ofNat_of_lt (by omega), WordCmp.toInt_eq_toNat_of_lt_half (by omega)]
  congr 1
  apply decide_eq_decide.mpr
  omega

theorem select_ofBool (p : Prop) [Decidable p] (a b : EReal) : Scalar.select (BitVec.ofBool (decide p)) a b = if p then a else b := by
  by_cases h : p
  · rw [if_pos h, decide_eq_true h]; rfl
  · rw [if_neg h, decide_eq_false h]; rfl

/-- The scores of the blocks before the last, -/
theorem s48_at (h : LenOk v1) (k : ℕ) (hk : k < nBlk v1 - 1) (r : Fin 256) (c : Fin 1024) :
    k0_pay48 (F := Ideal) (kCodes x0) (rowsK x1 k) (colsS x2 k) (ix2 r c) = kScore x0 x1 x2 v1 r (1024 * k + c.val) := by
  rw [pay48_at]
  unfold kScore score
  rw [if_pos (by have := c.isLt; unfold nBlk LenOk at *; omega)]
  simp only [kCodes_at]
  rfl

/-- and of the last block. -/
theorem s55_at (h : LenOk v1) (r : Fin 256) (c : Fin 1024) :
    k0_pay55 (F := Ideal) v1 (kBase v1) (k0_pay54 (kCodes x0)) (rowsK x1 (nBlk v1 - 1)) (colsS x2 (nBlk v1 - 1)) (ix2 r c)
      = kScore x0 x1 x2 v1 r (1024 * (nBlk v1 - 1) + c.val) := by
  rw [pay55_at, mask_word v1 h _ c.isLt, select_ofBool]
  unfold kScore score
  simp only [kCodes_at]
  rfl

theorem kT_at (h : LenOk v1) (k : ℕ) (hk : k < nBlk v1) (r : Fin 256) (c : Fin 1024) :
    kT (F := Ideal) x0 x1 x2 v1 k (ix3 0 r c) = kScore x0 x1 x2 v1 r (1024 * k + c.val) := by
  unfold kT
  split_ifs with e
  · subst e; unfold kTl; rw [pay56_at]; exact s55_at x0 x1 x2 v1 h r c
  · unfold kT1; rw [pay49_at]; exact s48_at x0 x1 x2 v1 h k (by omega) r c

/-! ## The row maximum -/

theorem forall_lt8 (P : ℕ → Prop) : (∀ s < 8, P s) ↔ P 0 ∧ P 1 ∧ P 2 ∧ P 3 ∧ P 4 ∧ P 5 ∧ P 6 ∧ P 7 := by
  constructor
  · intro h; exact ⟨h 0 (by decide), h 1 (by decide), h 2 (by decide), h 3 (by decide), h 4 (by decide), h 5 (by decide), h 6 (by decide), h 7 (by decide)⟩
  · rintro ⟨h0, h1, h2, h3, h4, h5, h6, h7⟩ s hs
    interval_cases s <;> assumption

theorem pay50_le (q : Vec Ideal S1x256x128 .fp8e4m3) (k : Vec Ideal S1x1024x128 .fp8e4m3) (s : Vec Ideal S1x1x1024 .f32) (m : Vec Ideal S256x128 .f32)
    (r : Fin 256) (c : Fin 128) (x : EReal) (T : ℕ → EReal) (hT : ∀ y : Fin 1024, k0_pay48 (F := Ideal) q k s (ix2 r y) = T y.val) :
    k0_pay50 (F := Ideal) q k s m (ix2 r c) ≤ x ↔ m (ix2 r c) ≤ x ∧ ∀ s < 8, T (128 * s + c.val) ≤ x := by
  pointwise [k0_pay50]
  simp only [hT, forall_lt8, max_le_iff, and_assoc]
  norm_num

theorem pay57_le (w u : BitVec 32) (q : FVec Ideal S256x128 .fp8e4m3) (k : Vec Ideal S1x1024x128 .fp8e4m3) (s : Vec Ideal S1x1x1024 .f32) (m : Vec Ideal S256x128 .f32)
    (r : Fin 256) (c : Fin 128) (x : EReal) (T : ℕ → EReal) (hT : ∀ y : Fin 1024, k0_pay55 (F := Ideal) w u q k s (ix2 r y) = T y.val) :
    k0_pay57 (F := Ideal) w u q k s m (ix2 r c) ≤ x ↔ m (ix2 r c) ≤ x ∧ ∀ s < 8, T (128 * s + c.val) ≤ x := by
  pointwise [k0_pay57]
  simp only [hT, forall_lt8, max_le_iff, and_assoc]
  norm_num

theorem pay45_at (r : Fin 256) (c : Fin 128) : k0_pay45 (F := Ideal) (ix2 r c) = (⊥ : EReal) := by
  pointwise [k0_pay45]
  exact cNegInf

theorem kM_le (h : LenOk v1) (r : Fin 256) (c : Fin 128) (x : EReal) (n : ℕ) (hn : n ≤ nBlk v1 - 1) :
    kM (F := Ideal) x0 x1 x2 n (ix2 r c) ≤ x ↔ ∀ k < n, ∀ s < 8, kScore x0 x1 x2 v1 r (1024 * k + (128 * s + c.val)) ≤ x := by
  induction n with
  | zero =>
    unfold kM; rw [pay45_at]; simp
  | succ n ih =>
    unfold kM
    rw [pay50_le _ _ _ _ r c x (fun y => kScore x0 x1 x2 v1 r (1024 * n + y)) (fun y => s48_at x0 x1 x2 v1 h n (by omega) r y), ih (by omega)]
    constructor
    · rintro ⟨ha, hb⟩ k hk
      rcases Nat.lt_succ_iff_lt_or_eq.mp hk with hk | rfl
      · exact ha k hk
      · exact hb
    · intro ha; exact ⟨fun k hk => ha k (by omega), ha n (by omega)⟩

theorem kMl_le (h : LenOk v1) (r : Fin 256) (c : Fin 128) (x : EReal) :
    kMl (F := Ideal) x0 x1 x2 v1 (ix2 r c) ≤ x ↔ ∀ k < nBlk v1, ∀ s < 8, kScore x0 x1 x2 v1 r (1024 * k + (128 * s + c.val)) ≤ x := by
  have hp := h.pos
  unfold kMl
  rw [pay57_le _ _ _ _ _ _ r c x (fun y => kScore x0 x1 x2 v1 r (1024 * (nBlk v1 - 1) + y)) (fun y => s55_at x0 x1 x2 v1 h r y), kM_le x0 x1 x2 v1 h r c x _ le_rfl]
  constructor
  · rintro ⟨ha, hb⟩ k hk
    by_cases hk' : k < nBlk v1 - 1
    · exact ha k hk'
    · rw [show k = nBlk v1 - 1 by omega]; exact hb
  · intro ha; exact ⟨fun k hk => ha k (by omega), ha _ (by omega)⟩

theorem pay59_at (mu m : FVec Ideal S256x128 .f32) (r : Fin 256) (c : Fin 128) :
    k0_pay59 (F := Ideal) mu (k0_pay58 m) (ix2 r c) = Finset.univ.fold max ⊥ (fun x => m (ix2 r x)) * mu (ix2 r c) - ((8 : ℝ) : EReal) := by
  pointwise [k0_pay59, k0_pay58]
  rw [cNegInf, c8]

/-- A row's maximum over every lane and block. -/
def kMax (r : Fin 256) : EReal := Finset.univ.fold max ⊥ (fun x => kMl (F := Ideal) x0 x1 x2 v1 (ix2 r x))

theorem kMax_le (h : LenOk v1) (r : Fin 256) (x : EReal) : kMax x0 x1 x2 v1 r ≤ x ↔ ∀ j < nBlk v1 * 1024, kScore x0 x1 x2 v1 r j ≤ x := by
  unfold kMax
  rw [fold_max_le]
  simp only [kMl_le x0 x1 x2 v1 h]
  constructor
  · intro H j hj
    have := H ⟨j % 128, Nat.mod_lt _ (by decide)⟩ (j / 1024) (by omega) (j % 1024 / 128) (by omega)
    rwa [show 1024 * (j / 1024) + (128 * (j % 1024 / 128) + j % 128) = j by omega] at this
  · intro H c k hk s hs
    exact H _ (by have := c.isLt; omega)

theorem kOff_at (r : Fin 256) (c : Fin 128) :
    kOff (F := Ideal) x0 x1 x2 v1 (ix2 r c) = kMax x0 x1 x2 v1 r * rowMu (qRow x0 r) - ((8 : ℝ) : EReal) := by
  unfold kOff
  rw [pay59_at, kMul_at]; rfl

/-! ## The sums -/

/-- A key's weight in a row. -/
def kWt (r : Fin 256) (j : ℕ) : EReal :=
  kW (rowMu (qRow x0 r)) (kMax x0 x1 x2 v1 r * rowMu (qRow x0 r) - ((8 : ℝ) : EReal)) (kScore x0 x1 x2 v1 r) j

theorem stepL_at (mul off l : FVec Ideal S256x128 .f32) (t : FVec Ideal S1x256x1024 .f32) (r : Fin 256) (c : Fin 128) (μ o : EReal)
    (hμ : ∀ c, mul (ix2 r c) = μ) (ho : ∀ c, off (ix2 r c) = o) (T : ℕ → EReal) (hT : ∀ y : Fin 1024, t (ix3 0 r y) = T y.val) :
    stepL (F := Ideal) mul off l t (ix2 r c) = l (ix2 r c) + ∑ s ∈ Finset.range 8, kW μ o T (128 * s + c.val) := by
  pointwise [stepL, k0_pay61, k0_pay60, k0_pay15, k0_pay14, k0_pay12, k0_pay10, k0_pay8, k0_pay6, k0_pay5, k0_pay3, k0_pay1]
  simp only [lanes_at, hμ, ho, hT, Finset.sum_range_succ, Finset.sum_range_zero, zero_add, add_assoc, kW]
  have hc := c.isLt
  rw [show c.val % 1024 = 128 * 0 + c.val by omega, show (128 + c.val) % 1024 = 128 * 1 + c.val by omega,
    show (256 + c.val) % 1024 = 128 * 2 + c.val by omega, show (384 + c.val) % 1024 = 128 * 3 + c.val by omega,
    show (512 + c.val) % 1024 = 128 * 4 + c.val by omega, show (640 + c.val) % 1024 = 128 * 5 + c.val by omega,
    show (768 + c.val) % 1024 = 128 * 6 + c.val by omega, show (896 + c.val) % 1024 = 128 * 7 + c.val by omega]
  rfl

theorem wcode_at (μ o : EReal) (T : ℕ → EReal) (j x : ℕ) (h : j = x) :
    min (Ideal.ofBits FTy.f32 1138753536#32) (max 0 (FloatOps.exp2 (F := Ideal) (φ := .f32) (T j * μ - o))) = wcode (kW μ o T x) := by
  subst h; rfl

set_option maxHeartbeats 2000000 in
theorem stepA_at (mul off a : FVec Ideal S256x128 .f32) (t : FVec Ideal S1x256x1024 .f32) (v : Vec Ideal S1x1024x128 .fp8e4m3) (r : Fin 256) (d : Fin 128) (μ o : EReal)
    (hμ : ∀ c, mul (ix2 r c) = μ) (ho : ∀ c, off (ix2 r c) = o) (T : ℕ → EReal) (hT : ∀ y : Fin 1024, t (ix3 0 r y) = T y.val) :
    stepA (F := Ideal) mul off a t v (ix2 r d) = a (ix2 r d) + ∑ x : Fin 1024, wcode (kW μ o T x.val) * v (ix3 0 x d) := by
  pointwise [stepA, k0_pay62, k0_pay2, k0_pay4, k0_pay7, k0_pay9, k0_pay11, k0_pay13, k0_pay16, k0_pay17, k0_pay60, k0_pay14, k0_pay12, k0_pay10, k0_pay8, k0_pay5, k0_pay3, k0_pay1]
  congr 1
  refine Finset.sum_congr rfl fun x _ => ?_
  congr 1
  simp only [lanes_at, hμ, ho, hT]
  have hx := x.isLt
  split_ifs <;> exact wcode_at μ o T _ _ (by omega)

/-- The row sums per lane. -/
theorem kL_at (h : LenOk v1) (r : Fin 256) (c : Fin 128) (n : ℕ) (hn : n ≤ nBlk v1) :
    kL (F := Ideal) x0 x1 x2 v1 n (ix2 r c) = ∑ k ∈ Finset.range n, ∑ s ∈ Finset.range 8, kWt x0 x1 x2 v1 r (k * 1024 + (s * 128 + c.val)) := by
  induction n with
  | zero =>
    unfold kL; pointwise [k0_pay46]; simp
  | succ n ih =>
    rw [kL_succ, stepL_at _ _ _ _ r c _ _ (kMul_at x0 r) (kOff_at x0 x1 x2 v1 r) (fun y => kScore x0 x1 x2 v1 r (1024 * n + y))
      (fun y => kT_at x0 x1 x2 v1 h n (by omega) r y), ih (by omega), Finset.sum_range_succ _ n]
    congr 1
    refine Finset.sum_congr rfl fun s _ => ?_
    rw [Nat.mul_comm n, Nat.mul_comm s]; rfl

/-- The accumulated values. -/
theorem kA_at (h : LenOk v1) (r : Fin 256) (d : Fin 128) (n : ℕ) (hn : n ≤ nBlk v1) :
    kA (F := Ideal) x0 x1 x2 x3 v1 n (ix2 r d) = ∑ j ∈ Finset.range (n * 1024), wcode (kWt x0 x1 x2 v1 r j) * x3 (ix3 0 (key j) d) := by
  rw [sum_range_mul]
  induction n with
  | zero =>
    unfold kA; pointwise [k0_pay47]; simp
  | succ n ih =>
    rw [kA_succ, stepA_at _ _ _ _ _ r d _ _ (kMul_at x0 r) (kOff_at x0 x1 x2 v1 r) (fun y => kScore x0 x1 x2 v1 r (1024 * n + y))
      (fun y => kT_at x0 x1 x2 v1 h n (by omega) r y), ih (by omega), Finset.sum_range_succ]
    congr 1
    rw [Finset.sum_range]
    refine Finset.sum_congr rfl fun s _ => ?_
    rw [rowsK_at, Nat.mul_comm n]; rfl

/-! ## The output block -/

theorem pay66_at (l a : FVec Ideal S256x128 .f32) (v : Vec Ideal S1x1x128 .f32) (r : Fin 256) (d : Fin 128) :
    k0_pay66 (F := Ideal) l a v (ix3 0 r d)
      = Ideal.div (a (ix2 r d) * (((256 : ℝ)⁻¹ : ℝ) : EReal) * v (ix3 0 0 d)) ((∑ x, l (ix2 r x)) * (((256 : ℝ)⁻¹ : ℝ) : EReal)) := by
  pointwise [k0_pay66]
  rw [cInv256]

theorem kOut_at (h : LenOk v1) (r : Fin 256) (d : Fin 128) :
    kOut (F := Ideal) x0 x1 x2 x3 x4 v1 (ix3 0 r d)
      = Ideal.div ((∑ j ∈ Finset.range (nBlk v1 * 1024), wcode (kWt x0 x1 x2 v1 r j) * x3 (ix3 0 (key j) d))
            * (((256 : ℝ)⁻¹ : ℝ) : EReal) * x4 (ix3 0 0 d))
          ((∑ j ∈ Finset.range (nBlk v1 * 1024), kWt x0 x1 x2 v1 r j) * (((256 : ℝ)⁻¹ : ℝ) : EReal)) := by
  unfold kOut
  rw [pay66_at, kA_at x0 x1 x2 x3 v1 h r d _ le_rfl, ← sum_lanes _ (kWt x0 x1 x2 v1 r), row0_at, Finset.sum_range (n := 128)]
  simp only [kL_at x0 x1 x2 v1 h r _ _ le_rfl]

end Cert.AttnIdeal.Gen

end
-- ==== Proof.KI.Final.lean ====
module

public import proofs.«01_k».proof.Proof.KI.Read
public import proofs.«01_k».proof.Proof.KI.Frame
public import proofs.«01_k».proof.Proof.Arr
public import Idealize.ShloMosaic.Lib.Pipeline.ValueKit

@[expose] public section

/-! The arrays the attention kernel ends with. -/

set_option maxRecDepth 16384

noncomputable section

namespace Cert.AttnIdeal.Gen

open Idealize.ShloMosaic Idealize.ShloMosaic.TcCoe Idealize.SL.Sem Cert.Own
open Idealize.ShloMosaic.Pipeline (Dat)

/-- Some contents of the tables, to evaluate the index maps at: they read none. -/
def pfZ : pre0.Contents (Elt Ideal) := fun | 0 => fun _ => (0#32 : BitVec 32)
def aZ : (pcfg0 (F := Ideal)).Adm := ⟨pfZ, trivial⟩

theorem covZ : ((cfg0 aZ).win 5).Covers ∧ ((cfg0 aZ).win 6).Covers ∧ ((cfg0 aZ).win 7).Covers := by decide +kernel

theorem idxZ : ∀ t : Fin grid0.N, ((cfg0 aZ).win 0).index t = ![t.val / 24, t.val % 24, 0]
    ∧ ((cfg0 aZ).win 1).index t = ![t.val / 24, 0, 0] ∧ ((cfg0 aZ).win 2).index t = ![t.val / 24, 0, 0]
    ∧ ((cfg0 aZ).win 3).index t = ![t.val / 24, 0, 0] ∧ ((cfg0 aZ).win 4).index t = ![t.val / 24, 0, 0]
    ∧ ((cfg0 aZ).win 5).index t = ![t.val / 24, t.val % 24, 0] ∧ ((cfg0 aZ).win 6).index t = ![t.val / 24, t.val % 24, 0]
    ∧ ((cfg0 aZ).win 7).index t = ![t.val / 24, 0, t.val % 24] ∧ t.val / 24 < 2 := by decide +kernel

variable (m : (ℓ : Loc nD τ sig) → Buf (Elt Ideal) ℓ) (hO : Ok m) (hH : LensOk m)

theorem cov5 : ((cfgM m hO).win 5).Covers := covZ.1
theorem cov6 : ((cfgM m hO).win 6).Covers := covZ.2.1
theorem cov7 : ((cfgM m hO).win 7).Covers := covZ.2.2

theorem idx (t : Fin grid0.N) : ((cfgM m hO).win 0).index t = ![t.val / 24, t.val % 24, 0]
    ∧ ((cfgM m hO).win 1).index t = ![t.val / 24, 0, 0] ∧ ((cfgM m hO).win 2).index t = ![t.val / 24, 0, 0]
    ∧ ((cfgM m hO).win 3).index t = ![t.val / 24, 0, 0] ∧ ((cfgM m hO).win 4).index t = ![t.val / 24, 0, 0]
    ∧ ((cfgM m hO).win 5).index t = ![t.val / 24, t.val % 24, 0] ∧ ((cfgM m hO).win 6).index t = ![t.val / 24, t.val % 24, 0]
    ∧ ((cfgM m hO).win 7).index t = ![t.val / 24, 0, t.val % 24] ∧ t.val / 24 < 2 := idxZ t

/-- A block of window 0 read. -/
theorem iblk0_at (c : Dev nD) (t : Fin grid0.N) (r : Fin 256) (d : Fin 128) (b : Fin 2) (R : Fin 6144) (hb : b.val = t.val / 24) (hR : R.val = t.val % 24 * 256 + r.val) :
    iblk m hO c 0 t (ix3 0 r d) = m ((c : Thread nD τ).loc main_arg1) (ix3 b R d) := by
  obtain ⟨e, -⟩ := idx m hO t
  refine congrArg (m ((c : Thread nD τ).loc main_arg1)) (funext fun a => Fin.ext ?_)
  have h : ∀ a : Fin 3, ((((cfgM m hO).win 0).blk t).view.emb (ix3 0 r d) a).val = ((cfgM m hO).win 0).index t a * (![1, 256, 128] : Fin 3 → ℕ) a + 1 * (ix3 (0 : Fin 1) r d a).val := fun a => rfl
  refine (h a).trans ?_
  rw [e]
  fin_cases a
  · show t.val / 24 * 1 + 1 * 0 = b.val; omega
  · show t.val % 24 * 256 + 1 * r.val = R.val; omega
  · show 0 * 128 + 1 * d.val = d.val; omega

/-- A block of window 1 read. -/
theorem iblk1_at (c : Dev nD) (t : Fin grid0.N) (r : Fin 32768) (d : Fin 128) (b : Fin 2) (hb : b.val = t.val / 24) :
    iblk m hO c 1 t (ix3 0 r d) = m ((c : Thread nD τ).loc main_arg2) (ix3 b r d) := by
  obtain ⟨-, e, -⟩ := idx m hO t
  refine congrArg (m ((c : Thread nD τ).loc main_arg2)) (funext fun a => Fin.ext ?_)
  have h : ∀ a : Fin 3, ((((cfgM m hO).win 1).blk t).view.emb (ix3 0 r d) a).val = ((cfgM m hO).win 1).index t a * (![1, 32768, 128] : Fin 3 → ℕ) a + 1 * (ix3 (0 : Fin 1) r d a).val := fun a => rfl
  refine (h a).trans ?_
  rw [e]
  fin_cases a
  · show t.val / 24 * 1 + 1 * 0 = b.val; omega
  · show 0 * 32768 + 1 * r.val = r.val; omega
  · show 0 * 128 + 1 * d.val = d.val; omega

/-- A block of window 3 read. -/
theorem iblk3_at (c : Dev nD) (t : Fin grid0.N) (r : Fin 32768) (d : Fin 128) (b : Fin 2) (hb : b.val = t.val / 24) :
    iblk m hO c 3 t (ix3 0 r d) = m ((c : Thread nD τ).loc main_arg4) (ix3 b r d) := by
  obtain ⟨-, -, -, e, -⟩ := idx m hO t
  refine congrArg (m ((c : Thread nD τ).loc main_arg4)) (funext fun a => Fin.ext ?_)
  have h : ∀ a : Fin 3, ((((cfgM m hO).win 3).blk t).view.emb (ix3 0 r d) a).val = ((cfgM m hO).win 3).index t a * (![1, 32768, 128] : Fin 3 → ℕ) a + 1 * (ix3 (0 : Fin 1) r d a).val := fun a => rfl
  refine (h a).trans ?_
  rw [e]
  fin_cases a
  · show t.val / 24 * 1 + 1 * 0 = b.val; omega
  · show 0 * 32768 + 1 * r.val = r.val; omega
  · show 0 * 128 + 1 * d.val = d.val; omega

/-- A block of window 2 read. -/
theorem iblk2_at (c : Dev nD) (t : Fin grid0.N) (r : Fin 32768) (b : Fin 2) (hb : b.val = t.val / 24) :
    iblk m hO c 2 t (ix3 0 (0 : Fin 1) r) = m ((c : Thread nD τ).loc main_arg3) (ix3 b 0 r) := by
  obtain ⟨-, -, e, -⟩ := idx m hO t
  refine congrArg (m ((c : Thread nD τ).loc main_arg3)) (funext fun a => Fin.ext ?_)
  have h : ∀ a : Fin 3, ((((cfgM m hO).win 2).blk t).view.emb (ix3 0 (0 : Fin 1) r) a).val = ((cfgM m hO).win 2).index t a * (![1, 1, 32768] : Fin 3 → ℕ) a + 1 * (ix3 (0 : Fin 1) (0 : Fin 1) r a).val := fun a => rfl
  refine (h a).trans ?_
  rw [e]
  fin_cases a
  · show t.val / 24 * 1 + 1 * 0 = b.val; omega
  · rfl
  · show 0 * 32768 + 1 * r.val = r.val; omega

/-- A block of window 4 read. -/
theorem iblk4_at (c : Dev nD) (t : Fin grid0.N) (d : Fin 128) (b : Fin 2) (hb : b.val = t.val / 24) :
    iblk m hO c 4 t (ix3 0 (0 : Fin 8) d) = m ((c : Thread nD τ).loc main_arg5) (ix3 b 0 d) := by
  obtain ⟨-, -, -, -, e, -⟩ := idx m hO t
  refine congrArg (m ((c : Thread nD τ).loc main_arg5)) (funext fun a => Fin.ext ?_)
  have h : ∀ a : Fin 3, ((((cfgM m hO).win 4).blk t).view.emb (ix3 0 (0 : Fin 8) d) a).val = ((cfgM m hO).win 4).index t a * (![1, 8, 128] : Fin 3 → ℕ) a + 1 * (ix3 (0 : Fin 1) (0 : Fin 8) d a).val := fun a => rfl
  refine (h a).trans ?_
  rw [e]
  fin_cases a
  · show t.val / 24 * 1 + 1 * 0 = b.val; omega
  · rfl
  · show 0 * 128 + 1 * d.val = d.val; omega

theorem offZ : ∀ t : Fin grid0.N, k0_off1 (grid0.coords t) 0 = t.val / 24 := by decide +kernel

/-- The sequence length a grid point reads. -/
theorem ptWord_at (c : Dev nD) (t : Fin grid0.N) (b : Fin 2) (hb : b.val = t.val / 24) :
    ptWord (F := Ideal) c (grid0.coords t) (tbl m 0) = m ((c : Thread nD τ).loc main_arg0) (ix1 b) := by
  obtain rfl : c = 0 := Subsingleton.elim _ _
  unfold ptWord
  refine congrArg (m (((0 : Dev nD) : Thread nD τ).loc main_arg0)) (funext fun a => Fin.ext ?_)
  obtain rfl : a = (0 : Fin 1) := Subsingleton.elim (α := Fin 1) _ _
  refine Eq.trans (b := k0_off1 (grid0.coords t) 0 + 1 * 0) rfl ?_
  rw [offZ t]
  show t.val / 24 + 1 * 0 = b.val
  omega

/-- The row of a point's block is a row of the queries. -/
theorem qRow_at (c : Dev nD) (t : Fin grid0.N) (r : Fin 256) (b : Fin 2) (R : Fin 6144) (hb : b.val = t.val / 24) (hR : R.val = t.val % 24 * 256 + r.val) :
    qRow (iblk m hO c 0 t) r = qOf (m ((c : Thread nD τ).loc main_arg1)) b R :=
  funext fun d => iblk0_at m hO c t r d b R hb hR

theorem scale_eq (q : Fin 128 → EReal) (h : 0 ≤ rowA q ∧ rowA q ≤ (((2 : ℝ) ^ (120 : ℤ) : ℝ) : EReal)) :
    kScaleOf (rowA q) = refScale q ∧ kInvOf (rowA q) = refInv q := by
  obtain ⟨n, e1, e2, e3, e4⟩ := scale_agree (rowA q) h.1 h.2
  exact ⟨e1.trans e2.symm, e3.trans e4.symm⟩

theorem scale_pt (c : Dev nD) (Q : FVec Ideal S2x6144x128 .bf16) (hQ : m ((c : Thread nD τ).loc main_arg1) = Q)
    (hq : ∀ b r, 0 ≤ rowA (qOf Q b r) ∧ rowA (qOf Q b r) ≤ (((2 : ℝ) ^ (120 : ℤ) : ℝ) : EReal))
    (t : Fin grid0.N) (y : S1x1x256.Idx) (i : RS.Idx)
    (h : ∀ a : Fin 3, (i a).val = (![t.val / 24, 0, t.val % 24] : Fin 3 → ℕ) a * (![1, 1, 256] : Fin 3 → ℕ) a + 1 * (y a).val) :
    kScale (iblk m hO c 0 t) y = arrScale Q i := by
  have h0 : (i 0).val = t.val / 24 * 1 + 1 * (y 0).val := h 0
  have h2 : (i 2).val = t.val % 24 * 256 + 1 * (y 2).val := h 2
  clear h
  idx_vars y
  obtain rfl : y0 = 0 := Subsingleton.elim _ _
  obtain rfl : y1 = 0 := Subsingleton.elim _ _
  have k0 : (i 0).val = t.val / 24 * 1 + 1 * 0 := h0
  have k2 : (i 2).val = t.val % 24 * 256 + 1 * y2.val := h2
  refine (kScale_at _ y2).trans ?_
  rw [qRow_at m hO c t y2 (i 0) (i 2) (by omega) (by omega), hQ]
  exact (scale_eq _ (hq _ _)).1

theorem codes_pt (c : Dev nD) (Q : FVec Ideal S2x6144x128 .bf16) (hQ : m ((c : Thread nD τ).loc main_arg1) = Q)
    (hq : ∀ b r, 0 ≤ rowA (qOf Q b r) ∧ rowA (qOf Q b r) ≤ (((2 : ℝ) ^ (120 : ℤ) : ℝ) : EReal))
    (t : Fin grid0.N) (y : S1x256x128.Idx) (i : QS.Idx)
    (h : ∀ a : Fin 3, (i a).val = (![t.val / 24, t.val % 24, 0] : Fin 3 → ℕ) a * (![1, 256, 128] : Fin 3 → ℕ) a + 1 * (y a).val) :
    kCodes (iblk m hO c 0 t) y = arrCodes Q i := by
  have h0 : (i 0).val = t.val / 24 * 1 + 1 * (y 0).val := h 0
  have h1 : (i 1).val = t.val % 24 * 256 + 1 * (y 1).val := h 1
  have h2 : (i 2).val = 0 * 128 + 1 * (y 2).val := h 2
  clear h
  idx_vars y
  obtain rfl : y0 = 0 := Subsingleton.elim _ _
  have k0 : (i 0).val = t.val / 24 * 1 + 1 * 0 := h0
  have k1 : (i 1).val = t.val % 24 * 256 + 1 * y1.val := h1
  have k2 : (i 2).val = 0 * 128 + 1 * y2.val := h2
  have e2 : y2 = i 2 := Fin.ext (by omega)
  refine (kCodes_at _ y1 y2).trans ?_
  rw [qRow_at m hO c t y1 (i 0) (i 1) (by omega) (by omega), hQ]
  subst e2
  exact congrArg (fun z => code (qOf Q (i 0) (i 1)) z (i 2)) (scale_eq _ (hq _ _)).2

theorem out_pt (c : Dev nD) (L : IVec S2 32) (Q : FVec Ideal S2x6144x128 .bf16) (K : FVec Ideal S2x32768x128 .fp8e4m3) (S : FVec Ideal S2x1x32768 .f32) (V' : FVec Ideal S2x32768x128 .fp8e4m3) (Z : FVec Ideal S2x8x128 .f32)
    (hL : m ((c : Thread nD τ).loc main_arg0) = L) (hQ : m ((c : Thread nD τ).loc main_arg1) = Q)
    (hK : m ((c : Thread nD τ).loc main_arg2) = K) (hS : m ((c : Thread nD τ).loc main_arg3) = S) (hV : m ((c : Thread nD τ).loc main_arg4) = V') (hZ : m ((c : Thread nD τ).loc main_arg5) = Z)
    (hq : ∀ b r, 0 ≤ rowA (qOf Q b r) ∧ rowA (qOf Q b r) ≤ (((2 : ℝ) ^ (120 : ℤ) : ℝ) : EReal))
    (hH : LensOk m) (t : Fin grid0.N) (y : S1x256x128.Idx) (i : QS.Idx)
    (h : ∀ a : Fin 3, (i a).val = (![t.val / 24, t.val % 24, 0] : Fin 3 → ℕ) a * (![1, 256, 128] : Fin 3 → ℕ) a + 1 * (y a).val) :
    kOut (iblk m hO c 0 t) (iblk m hO c 1 t) (iblk m hO c 2 t) (iblk m hO c 3 t) (iblk m hO c 4 t) (ptWord (F := Ideal) c (grid0.coords t) (tbl m 0)) y = arrOut L Q K V' S Z i := by
  have h0 : (i 0).val = t.val / 24 * 1 + 1 * (y 0).val := h 0
  have h1 : (i 1).val = t.val % 24 * 256 + 1 * (y 1).val := h 1
  have h2 : (i 2).val = 0 * 128 + 1 * (y 2).val := h 2
  clear h
  idx_vars y
  obtain rfl : y0 = 0 := Subsingleton.elim _ _
  have k0 : (i 0).val = t.val / 24 * 1 + 1 * 0 := h0
  have k1 : (i 1).val = t.val % 24 * 256 + 1 * y1.val := h1
  have k2 : (i 2).val = 0 * 128 + 1 * y2.val := h2
  have e2 : y2 = i 2 := Fin.ext (by omega)
  have hb : (i 0).val = t.val / 24 := by omega
  have hl := hH c t
  have hw : ptWord (F := Ideal) c (grid0.coords t) (tbl m 0) = L (ix1 (i 0)) := (ptWord_at m c t (i 0) hb).trans (congrFun hL _)
  rw [hw] at hl ⊢
  have eq : qRow (iblk m hO c 0 t) y1 = qOf Q (i 0) (i 1) := (qRow_at m hO c t y1 (i 0) (i 1) hb (by omega)).trans (by rw [hQ])
  have eK : (fun (j : Fin 32768) (d : Fin 128) => iblk m hO c 1 t (ix3 0 j d)) = fun j d => K (ix3 (i 0) j d) :=
    funext fun j => funext fun d => (iblk1_at m hO c t j d (i 0) hb).trans (congrFun hK _)
  have eS : (fun (j : Fin 32768) => iblk m hO c 2 t (ix3 0 0 j)) = fun j => S (ix3 (i 0) 0 j) :=
    funext fun j => (iblk2_at m hO c t j (i 0) hb).trans (congrFun hS _)
  have eV : (fun (j : Fin 32768) (d : Fin 128) => iblk m hO c 3 t (ix3 0 j d)) = fun j d => V' (ix3 (i 0) j d) :=
    funext fun j => funext fun d => (iblk3_at m hO c t j d (i 0) hb).trans (congrFun hV _)
  have eZ : (fun (d : Fin 128) => iblk m hO c 4 t (ix3 0 0 d)) = fun d => Z (ix3 (i 0) 0 d) :=
    funext fun d => (iblk4_at m hO c t d (i 0) hb).trans (congrFun hZ _)
  have hr := row_eq (qOf Q (i 0) (i 1)) (fun j d => K (ix3 (i 0) j d)) (fun j => S (ix3 (i 0) 0 j)) (fun j d => V' (ix3 (i 0) j d)) (fun d => Z (ix3 (i 0) 0 d))
    (L (ix1 (i 0))).toNat (nBlk (L (ix1 (i 0))) * 1024) (by have := hl.1; unfold nBlk; omega) (by have := hl.le; omega) (hq _ _).1 (hq _ _).2
    (kMax (iblk m hO c 0 t) (iblk m hO c 1 t) (iblk m hO c 2 t) (L (ix1 (i 0))) y1)
    (fun x => (kMax_le _ _ _ _ hl y1 x).trans (by unfold kScore; rw [eq, eK, eS])) y2
  refine (kOut_at _ _ _ _ _ _ hl y1 y2).trans ?_
  refine Eq.trans ?_ (hr.trans ?_)
  · rw [← eq, ← eK, ← eS, ← eV, ← eZ]; rfl
  · rw [e2]; rfl

/-- The query scales. -/
theorem final7 (c : Dev nD) (Q : FVec Ideal S2x6144x128 .bf16) (hQ : m ((c : Thread nD τ).loc main_arg1) = Q)
    (hq : ∀ b r, 0 ≤ rowA (qOf Q b r) ∧ rowA (qOf Q b r) ≤ (((2 : ℝ) ^ (120 : ℤ) : ℝ) : EReal)) :
    (dats m hO hH 0 c).arrAt 7 (cfgM m hO).N = arrScale Q := by
  refine (dats m hO hH 0 c).arrAt_eq_of_covers 7 _ (cov7 m hO) fun t hf y => ?_
  blk_simp
  rw [after0_7]
  obtain ⟨-, -, -, -, -, -, -, e, -⟩ := idx m hO t
  refine scale_pt m hO c Q hQ hq t y _ fun a => ?_
  rw [← e]; rfl

/-- The query codes. -/
theorem final6 (c : Dev nD) (Q : FVec Ideal S2x6144x128 .bf16) (hQ : m ((c : Thread nD τ).loc main_arg1) = Q)
    (hq : ∀ b r, 0 ≤ rowA (qOf Q b r) ∧ rowA (qOf Q b r) ≤ (((2 : ℝ) ^ (120 : ℤ) : ℝ) : EReal)) :
    (dats m hO hH 0 c).arrAt 6 (cfgM m hO).N = arrCodes Q := by
  refine (dats m hO hH 0 c).arrAt_eq_of_covers 6 _ (cov6 m hO) fun t hf y => ?_
  blk_simp
  rw [after0_6]
  obtain ⟨-, -, -, -, -, -, e, -, -⟩ := idx m hO t
  refine codes_pt m hO c Q hQ hq t y _ fun a => ?_
  rw [← e]; rfl

/-- The attention output. -/
theorem final5 (c : Dev nD) (L : IVec S2 32) (Q : FVec Ideal S2x6144x128 .bf16) (K : FVec Ideal S2x32768x128 .fp8e4m3) (S : FVec Ideal S2x1x32768 .f32) (V' : FVec Ideal S2x32768x128 .fp8e4m3) (Z : FVec Ideal S2x8x128 .f32)
    (hL : m ((c : Thread nD τ).loc main_arg0) = L) (hQ : m ((c : Thread nD τ).loc main_arg1) = Q)
    (hK : m ((c : Thread nD τ).loc main_arg2) = K) (hS : m ((c : Thread nD τ).loc main_arg3) = S) (hV : m ((c : Thread nD τ).loc main_arg4) = V') (hZ : m ((c : Thread nD τ).loc main_arg5) = Z)
    (hq : ∀ b r, 0 ≤ rowA (qOf Q b r) ∧ rowA (qOf Q b r) ≤ (((2 : ℝ) ^ (120 : ℤ) : ℝ) : EReal)) :
    (dats m hO hH 0 c).arrAt 5 (cfgM m hO).N = arrOut L Q K V' S Z := by
  refine (dats m hO hH 0 c).arrAt_eq_of_covers 5 _ (cov5 m hO) fun t hf y => ?_
  blk_simp
  rw [after0_5]
  obtain ⟨-, -, -, -, -, e, -, -, -⟩ := idx m hO t
  refine out_pt m hO c L Q K S V' Z hL hQ hK hS hV hZ hq hH t y _ fun a => ?_
  rw [← e]; rfl

end Cert.AttnIdeal.Gen

end
-- ==== Proof.KI.Value.lean ====
module

public import proofs.«01_k».proof.Proof.KI.Final

@[expose] public section

/-! The attention kernel's run, with what its three results hold. -/

set_option maxRecDepth 16384

noncomputable section

namespace Cert.AttnIdeal.Gen

open Idealize.ShloMosaic Idealize.ShloMosaic.TcCoe Idealize.SL.Sem Cert.Own

variable (m : (ℓ : Loc nD τ sig) → Buf (Elt Ideal) ℓ) (ρ : Dev nD → PrngReg)

/-- Every run ends with the three result arrays at the functions of the arguments, the arguments unchanged. -/
theorem run_value (hO : Ok m) (hH : LensOk m)
    (hq : ∀ (c : Dev nD) b r, 0 ≤ rowA (qOf (m ((c : Thread nD τ).loc main_arg1)) b r) ∧ rowA (qOf (m ((c : Thread nD τ).loc main_arg1)) b r) ≤ (((2 : ℝ) ^ (120 : ℤ) : ℝ) : EReal)) :
    θ_run defs (onTc (τ := τ) (main (F := Ideal))) ⟨m, fun _ => 0, ρ⟩ (fun r => ∀ c : Dev nD,
      r.2.mem ((c.tc : Thread nD τ).loc main_v0_0) = arrOut (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5))
      ∧ r.2.mem ((c.tc : Thread nD τ).loc main_v0_1) = arrCodes (m ((c : Thread nD τ).loc main_arg1))
      ∧ r.2.mem ((c.tc : Thread nD τ).loc main_v0_2) = arrScale (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨((h.1 c).1 5).trans (final5 m hO hH c _ _ _ _ _ _ rfl rfl rfl rfl rfl rfl (hq c)),
      ((h.1 c).1 6).trans (final6 m hO hH c _ rfl (hq c)), ((h.1 c).1 7).trans (final7 m hO hH c _ rfl (hq c)), h.2 c⟩)
    (θ_run_and (run_main m ρ hO hH) (unchanged m ρ hO hH))

end Cert.AttnIdeal.Gen

end
-- ==== Proof.RefRead.lean ====
module

public import proofs.«01_k».proof.Proof.Gen.AttnRefIdeal.Skeleton
public import proofs.«01_k».proof.Proof.Row
public import Idealize.ShloMosaic.Lib.Pointwise
public import Idealize.ShloMosaic.Lib.WordCmp

@[expose] public section

/-! The reference's quantiser read at an index, over the extended reals, for both batches. -/

set_option maxRecDepth 16384

noncomputable section

namespace Cert.AttnRefIdeal.Gen

open Idealize.ShloMosaic Idealize.ShloMosaic.TcCoe Idealize.SL.Sem Cert.Own

/-- The reduced maxima's column. -/
def redCol (x : FVec Ideal S6144x128 .f32) : FVec Ideal S6144x1 .f32 :=
  mulf (shapeCast S6144x1 (multiReduction .maximumf [1] S6144 (absf x) 0xFF800000#32 reduces_S6144x128_S6144 (.inl rfl) rfl) shapeCasts_S6144_S6144x1)
    (broadcast S6144x1 (Scalar.ofBits (F := Ideal) .f32 0x3B124925#32))
theorem redCol_at (x : FVec Ideal S6144x128 .f32) (r : Fin 6144) : redCol x (ix2 r 0) = rowA fun d => x (ix2 r d) := by
  pointwise [redCol]
  rfl
/-- The exponent's column from the query rows, the printed operations composed. -/
def expCol (x : FVec Ideal S6144x128 .f32) : FVec Ideal S6144x1 .f32 :=
  select (cmpf .olt (redCol x) (broadcast S6144x1 (Scalar.ofBits (F := Ideal) .f32 0x00800000#32)))
    (broadcast S6144x1 (Scalar.ofBits (F := Ideal) .f32 0x00000000#32))
    (addf (floor (divf (log (redCol x)) (broadcast S6144x1 (Named.named (F := Ideal) κ "ln2" 0x3F317218#32))))
      (broadcast S6144x1 (Scalar.ofBits (F := Ideal) .f32 0x3F800000#32)))
theorem expCol_at (x : FVec Ideal S6144x128 .f32) (r : Fin 6144) : expCol x (ix2 r 0) = rExpOf (rowA fun d => x (ix2 r d)) := by
  pointwise [expCol]
  rw [redCol_at]
  rfl
/-- The codes before they are rounded. -/
def codeCol (x : FVec Ideal S6144x128 .f32) (e : FVec Ideal S6144x1 .f32) : FVec Ideal S6144x128 .f32 :=
  maximumf (broadcast S6144x128 (Scalar.ofBits (F := Ideal) .f32 0xC3E00000#32))
    (mulf x (broadcastTo S6144x128 (exp2 (subf (broadcast S6144x1 (Scalar.ofBits (F := Ideal) .f32 0#32)) e)) broadcasts_S6144x1_S6144x128))
theorem codeCol_at (x : FVec Ideal S6144x128 .f32) (e : FVec Ideal S6144x1 .f32) (r : Fin 6144) (d : Fin 128) :
    min (Ideal.ofBits .f32 1138753536#32) (codeCol x e (ix2 r d)) = code (fun d => x (ix2 r d)) (Ideal.exp2 (0 - e (ix2 r 0))) d := by
  pointwise [codeCol]
  rfl

theorem pay8_at (q : Vec Ideal S1x6144x128 .bf16) (r : Fin 6144) (d : Fin 128) : k0_pay8 (F := Ideal) q (ix2 r d) = q (ix3 0 r d) := by
  pointwise [k0_pay8]
theorem pay21_at (q : Vec Ideal S1x6144x128 .bf16) (r : Fin 6144) (d : Fin 128) : k0_pay21 (F := Ideal) q (ix2 r d) = q (ix3 0 r d) := by
  pointwise [k0_pay21]
theorem exp2_at (f : FVec Ideal S6144x1 .f32) (r : Fin 6144) : exp2 f (ix2 r 0) = Ideal.exp2 (f (ix2 r 0)) := rfl
theorem pay10_eq (q : Vec Ideal S1x6144x128 .bf16) : k0_pay10 (F := Ideal) q = exp2 (k0_pay9 q) := rfl
theorem pay23_eq (q : Vec Ideal S1x6144x128 .bf16) : k0_pay23 (F := Ideal) q = exp2 (k0_pay22 q) := rfl
theorem pay9_eq (q : Vec Ideal S1x6144x128 .bf16) : k0_pay9 (F := Ideal) q = expCol (k0_pay8 q) := rfl
theorem pay22_eq (q : Vec Ideal S1x6144x128 .bf16) : k0_pay22 (F := Ideal) q = expCol (k0_pay21 q) := rfl
theorem pay11_eq (q : Vec Ideal S1x6144x128 .bf16) : k0_pay11 (F := Ideal) q = codeCol (k0_pay8 q) (k0_pay9 q) := rfl
theorem pay24_eq (x : FVec Ideal S6144x128 .f32) (e : FVec Ideal S6144x1 .f32) :
    k0_pay24 (F := Ideal) x e (Scalar.ofBits .f32 0#32) = k0_pay12 (Scalar.ofBits .f32 0x43E00000#32) (codeCol x e) := rfl
theorem pay12_at (c : Ideal .f32) (x : FVec Ideal S6144x128 .f32) (r : Fin 6144) (d : Fin 128) :
    k0_pay12 (F := Ideal) c x (ix2 r d) = min c (x (ix2 r d)) := by
  pointwise [k0_pay12]

theorem pay9_at (q : Vec Ideal S1x6144x128 .bf16) (r : Fin 6144) :
    k0_pay9 (F := Ideal) q (ix2 r 0) = rExpOf (rowA fun d => q (ix3 0 r d)) := by
  rw [pay9_eq, expCol_at]
  simp only [pay8_at]
theorem pay10_at (q : Vec Ideal S1x6144x128 .bf16) (r : Fin 6144) :
    k0_pay10 (F := Ideal) q (ix2 r 0) = refScale fun d => q (ix3 0 r d) := by
  rw [pay10_eq, exp2_at, pay9_at]
  unfold refScale
  rfl

theorem pay22_at (q : Vec Ideal S1x6144x128 .bf16) (r : Fin 6144) :
    k0_pay22 (F := Ideal) q (ix2 r 0) = rExpOf (rowA fun d => q (ix3 0 r d)) := by
  rw [pay22_eq, expCol_at]
  simp only [pay21_at]
theorem pay23_at (q : Vec Ideal S1x6144x128 .bf16) (r : Fin 6144) :
    k0_pay23 (F := Ideal) q (ix2 r 0) = refScale fun d => q (ix3 0 r d) := by
  rw [pay23_eq, exp2_at, pay22_at]
  unfold refScale
  rfl

/-- The codes of the first batch, -/
theorem codesA_at (q : Vec Ideal S1x6144x128 .bf16) (r : Fin 6144) (d : Fin 128) :
    k0_pay12 (F := Ideal) (Ideal.ofBits .f32 1138753536#32) (k0_pay11 q) (ix2 r d) = code (fun d => q (ix3 0 r d)) (refInv fun d => q (ix3 0 r d)) d := by
  rw [pay12_at, pay11_eq, codeCol_at, pay9_at]
  simp only [pay8_at]
  rfl
/-- and of the second. -/
theorem codesB_at (q : Vec Ideal S1x6144x128 .bf16) (r : Fin 6144) (d : Fin 128) :
    k0_pay24 (F := Ideal) (k0_pay21 q) (k0_pay22 q) (Scalar.ofBits .f32 0#32) (ix2 r d) = code (fun d => q (ix3 0 r d)) (refInv fun d => q (ix3 0 r d)) d := by
  rw [pay24_eq, pay12_at]
  refine (codeCol_at _ _ r d).trans ?_
  rw [pay22_at]
  simp only [pay21_at]
  rfl

/-! ## The stored shapes -/

theorem pay13_at (e : FVec Ideal S6144x1 .f32) (r : Fin 6144) : k0_pay13 (F := Ideal) e (ix2 0 r) = e (ix2 r 0) := by
  pointwise [k0_pay13]
theorem pay26_at (e : FVec Ideal S6144x1 .f32) (r : Fin 6144) : k0_pay26 (F := Ideal) e (ix2 0 r) = e (ix2 r 0) := by
  pointwise [k0_pay26]
theorem pay16_at (e : FVec Ideal S1x6144 .f32) (r : Fin 6144) : k0_pay16 (F := Ideal) e (ix3 0 0 r) = e (ix2 0 r) := by
  pointwise [k0_pay16]
theorem pay3_at (e : FVec Ideal S1x6144 .f32) (r : Fin 6144) : k0_pay3 (F := Ideal) e (ix3 0 0 r) = e (ix2 0 r) := by
  pointwise [k0_pay3]
theorem pay15_at (e : FVec Ideal S6144x128 .fp8e4m3) (r : Fin 6144) (d : Fin 128) : k0_pay15 (F := Ideal) e (ix3 0 r d) = e (ix2 r d) := by
  pointwise [k0_pay15]
theorem pay2_at (e : FVec Ideal S6144x128 .fp8e4m3) (r : Fin 6144) (d : Fin 128) : k0_pay2 (F := Ideal) e (ix3 0 r d) = e (ix2 r d) := by
  pointwise [k0_pay2]
theorem pay1_at (e : FVec Ideal S6144x128 .bf16) (r : Fin 6144) (d : Fin 128) : k0_pay1 (F := Ideal) e (ix3 0 r d) = e (ix2 r d) := by
  pointwise [k0_pay1]

end Cert.AttnRefIdeal.Gen

end
-- ==== Proof.RefOut.lean ====
module

public import proofs.«01_k».proof.Proof.RefRead
public import Idealize.ShloMosaic.Lib.Pointwise
public import Idealize.ShloMosaic.Lib.WordCmp

@[expose] public section

/-! The reference's first batch's output read at an index. -/

set_option maxRecDepth 16384

noncomputable section

namespace Cert.AttnRefIdeal.Gen

open Idealize.ShloMosaic Idealize.ShloMosaic.TcCoe Idealize.SL.Sem Cert.Own

theorem mask_ref (w : BitVec 32) (hw : w.toNat ≤ 32768) (x : Fin 32768) (a b : EReal) :
    Scalar.select (IntOp.cmpi CmpIPredicate.slt (BitVec.ofNat 32 x.val) w) a b = if x.val < w.toNat then a else b := by
  have hx := x.isLt
  have : IntOp.cmpi CmpIPredicate.slt (BitVec.ofNat 32 x.val) w = BitVec.ofBool (decide (x.val < w.toNat)) := by
    show BitVec.ofBool (decide ((BitVec.ofNat 32 x.val).toInt < w.toInt)) = _
    rw [WordCmp.toInt_ofNat_of_lt (by omega), WordCmp.toInt_eq_toNat_of_lt_half (by omega)]
    congr 1
    apply decide_eq_decide.mpr
    omega
  rw [this]
  by_cases h : x.val < w.toNat
  · rw [if_pos h, decide_eq_true h]; rfl
  · rw [if_neg h, decide_eq_false h]; rfl

theorem scaleVal : Named.named (F := Ideal) (φ := .f32) κ "scale" 1035273459#32 = (((Real.sqrt 128)⁻¹ : ℝ) : EReal) := rfl

theorem pay14_at (w : BitVec 32) (hw : w.toNat ≤ 32768) (k : Vec Ideal S1x32768x128 .fp8e4m3) (s : Vec Ideal S1x1x32768 .f32) (v : Vec Ideal S1x32768x128 .fp8e4m3)
    (z : Vec Ideal S1x1x128 .f32) (q : Vec Ideal S1x6144x128 .bf16) (r : Fin 6144) (d : Fin 128) :
    k0_pay14 (F := Ideal) w (k0_pay4 k) (k0_pay5 s) (k0_pay6 v) (k0_pay7 z) (k0_pay10 q) (Scalar.ofBits .f32 0x43E00000#32) (k0_pay11 q) (ix3 0 r d)
      = refOut (fun d => q (ix3 0 r d)) (fun j d => k (ix3 0 j d)) (fun j => s (ix3 0 0 j)) (fun j d => v (ix3 0 j d)) (fun d => z (ix3 0 0 d)) w.toNat d := by
  pointwise [k0_pay14, k0_pay4, k0_pay5, k0_pay6, k0_pay7]
  simp only [codesA_at, pay10_at, cNegInf, c256, cInv256, scaleVal, mask_ref w hw]
  rfl

theorem pay25_at (w : BitVec 32) (hw : w.toNat ≤ 32768) (k : Vec Ideal S1x32768x128 .fp8e4m3) (s : Vec Ideal S1x1x32768 .f32) (v : Vec Ideal S1x32768x128 .fp8e4m3)
    (z : Vec Ideal S1x1x128 .f32) (q : Vec Ideal S1x6144x128 .bf16) (r : Fin 6144) (d : Fin 128) :
    k0_pay25 (F := Ideal) w (k0_pay17 k) (k0_pay18 s) (k0_pay19 v) (k0_pay20 z) (k0_pay21 q) (k0_pay22 q) (k0_pay23 q) (Scalar.ofBits .f32 0#32) (ix2 r d)
      = refOut (fun d => q (ix3 0 r d)) (fun j d => k (ix3 0 j d)) (fun j => s (ix3 0 0 j)) (fun j d => v (ix3 0 j d)) (fun d => z (ix3 0 0 d)) w.toNat d := by
  have hc : (fun (r : Fin 6144) (d : Fin 128) => k0_pay24 (F := Ideal) (k0_pay21 q) (k0_pay22 q) (0 : EReal) (ix2 r d))
      = fun r d => code (fun d => q (ix3 0 r d)) (refInv fun d => q (ix3 0 r d)) d := by
    funext r d
    have := codesB_at q r d
    rwa [show (Scalar.ofBits (F := Ideal) .f32 0#32 : EReal) = 0 by pointwise] at this
  have hc' := fun r d => congrFun (congrFun hc r) d
  pointwise [k0_pay25, k0_pay17, k0_pay18, k0_pay19, k0_pay20]
  simp only [hc', pay23_at, cNegInf, c256, cInv256, scaleVal, mask_ref w hw]
  rfl

end Cert.AttnRefIdeal.Gen

end
-- ==== Proof.RefFinal.lean ====
module

public import proofs.«01_k».proof.Proof.RefOut
public import proofs.«01_k».proof.Proof.Arr
public import proofs.«01_k».proof.Proof.Gen.AttnRefIdeal.Frame
public import Idealize.ShloMosaic.Lib.Pipeline.ValueKit

@[expose] public section

/-! The arrays the reference ends with. -/

set_option maxRecDepth 16384

noncomputable section

namespace Cert.AttnRefIdeal.Gen

open Idealize.ShloMosaic Idealize.ShloMosaic.TcCoe Idealize.SL.Sem Cert.Own
open Idealize.ShloMosaic.Pipeline (Dat)

variable (m : (ℓ : Loc nD τ sig) → Buf (Elt Ideal) ℓ)

theorem idx : ∀ t : Fin grid0.N, win0_0.index t = ![0] ∧ win0_1.index t = ![0, 0, 0] ∧ win0_2.index t = ![0, 0, 0] ∧ win0_3.index t = ![0, 0, 0] ∧ win0_4.index t = ![0, 0, 0] ∧ win0_5.index t = ![0, 0, 0] := by decide +kernel

/-- The query scales. -/
theorem final8 (c : Dev nD) (Q : FVec Ideal S2x6144x128 .bf16) (hQ : m ((c : Thread nD τ).loc main_arg1) = Q) : (dats m 0 c).arrAt 8 (cfgs 0).N
    = arrScale Q := by
  refine (dats m 0 c).arrAt_eq_of_after_last 8 t0_0 (by decide +kernel) _ fun j => ?_
  blk_simp
  rw [after0_8]
  unfold outsAt0
  frame_out
  have hb : iblk m c 1 t0_0 = Q := by
    rw [← hQ]; blk_ext! [iblk, V, idx t0_0]
  rw [hb]
  clear hb hQ
  canon_tiles x h
  · idx_vars x
    generalize eX : View.ld (View.read (Elt Ideal) (View.whole cc0_stg1_0) _) (Rect.unit ![_, 0, 0] _ _) = X
    have hX : ∀ (r : Fin 6144) (d : Fin 128), X (ix3 0 r d) = Q (ix3 1 r d) := by
      intro r d; rw [← eX]; pointwise; exact congrFun (Memref.IsWhole.read_unread _ _) _
    clear eX
    obtain rfl : x0 = 0 := Subsingleton.elim _ _
    obtain rfl : x1 = 0 := Subsingleton.elim _ _
    rw [pay3_at, pay26_at, pay23_at]
    have e : x2 = j 2 := Fin.ext h2.symm
    simp only [hX]
    have e0 : j 0 = (1 : Fin 2) := Fin.ext (show (j 0).val = 1 by omega)
    unfold arrScale qOf
    rw [e, ← e0]
  · idx_vars x
    generalize eX : View.ld (View.read (Elt Ideal) (View.whole cc0_stg1_0) _) (Rect.unit ![_, 0, 0] _ _) = X
    have hX : ∀ (r : Fin 6144) (d : Fin 128), X (ix3 0 r d) = Q (ix3 0 r d) := by
      intro r d; rw [← eX]; pointwise; exact congrFun (Memref.IsWhole.read_unread _ _) _
    clear eX
    obtain rfl : x0 = 0 := Subsingleton.elim _ _
    obtain rfl : x1 = 0 := Subsingleton.elim _ _
    rw [pay16_at, pay13_at, pay10_at]
    have e : x2 = j 2 := Fin.ext h2.symm
    simp only [hX]
    have e0 : j 0 = (0 : Fin 2) := Fin.ext (show (j 0).val = 0 by omega)
    unfold arrScale qOf
    rw [e, ← e0]

/-- The query codes. -/
theorem final7 (c : Dev nD) (Q : FVec Ideal S2x6144x128 .bf16) (hQ : m ((c : Thread nD τ).loc main_arg1) = Q) : (dats m 0 c).arrAt 7 (cfgs 0).N
    = arrCodes Q := by
  refine (dats m 0 c).arrAt_eq_of_after_last 7 t0_0 (by decide +kernel) _ fun j => ?_
  blk_simp
  rw [after0_7]
  unfold outsAt0
  frame_out
  have hb : iblk m c 1 t0_0 = Q := by
    rw [← hQ]; blk_ext! [iblk, V, idx t0_0]
  rw [hb]
  clear hb hQ
  canon_tiles x h
  · idx_vars x
    generalize eX : View.ld (View.read (Elt Ideal) (View.whole cc0_stg1_0) _) (Rect.unit ![_, 0, 0] _ _) = X
    have hX : ∀ (r : Fin 6144) (d : Fin 128), X (ix3 0 r d) = Q (ix3 1 r d) := by
      intro r d; rw [← eX]; pointwise; exact congrFun (Memref.IsWhole.read_unread _ _) _
    clear eX
    obtain rfl : x0 = 0 := Subsingleton.elim _ _
    refine (pay2_at _ x1 x2).trans ((codesB_at _ x1 x2).trans ?_)
    have e1 : x1 = j 1 := Fin.ext h1.symm
    have e2 : x2 = j 2 := Fin.ext h2.symm
    simp only [hX]
    have e0 : j 0 = (1 : Fin 2) := Fin.ext (show (j 0).val = 1 by omega)
    unfold arrCodes qOf
    rw [e1, e2, ← e0]
  · idx_vars x
    generalize eX : View.ld (View.read (Elt Ideal) (View.whole cc0_stg1_0) _) (Rect.unit ![_, 0, 0] _ _) = X
    have hX : ∀ (r : Fin 6144) (d : Fin 128), X (ix3 0 r d) = Q (ix3 0 r d) := by
      intro r d; rw [← eX]; pointwise; exact congrFun (Memref.IsWhole.read_unread _ _) _
    clear eX
    obtain rfl : x0 = 0 := Subsingleton.elim _ _
    refine (pay15_at _ x1 x2).trans ((codesA_at _ x1 x2).trans ?_)
    have e1 : x1 = j 1 := Fin.ext h1.symm
    have e2 : x2 = j 2 := Fin.ext h2.symm
    simp only [hX]
    have e0 : j 0 = (0 : Fin 2) := Fin.ext (show (j 0).val = 0 by omega)
    unfold arrCodes qOf
    rw [e1, e2, ← e0]

/-- The attention output. -/
theorem final6 (c : Dev nD) (L : IVec S2 32) (Q : FVec Ideal S2x6144x128 .bf16) (K : FVec Ideal S2x32768x128 .fp8e4m3) (S : FVec Ideal S2x1x32768 .f32) (V' : FVec Ideal S2x32768x128 .fp8e4m3) (Z : FVec Ideal S2x8x128 .f32)
    (hL : m ((c : Thread nD τ).loc main_arg0) = L) (hQ : m ((c : Thread nD τ).loc main_arg1) = Q)
    (hK : m ((c : Thread nD τ).loc main_arg2) = K) (hS : m ((c : Thread nD τ).loc main_arg3) = S) (hV : m ((c : Thread nD τ).loc main_arg4) = V') (hZ : m ((c : Thread nD τ).loc main_arg5) = Z)
    (hl : ∀ b, (L b).toNat ≤ 32768) :
    (dats m 0 c).arrAt 6 (cfgs 0).N
    = arrOut L Q K V' S Z := by
  refine (dats m 0 c).arrAt_eq_of_after_last 6 t0_0 (by decide +kernel) _ fun j => ?_
  blk_simp
  rw [after0_6]
  unfold outsAt0
  frame_out
  have hb0 : iblk m c 0 t0_0 = L := by
    rw [← hL]; blk_ext! [iblk, V, idx t0_0]
  have hb1 : iblk m c 1 t0_0 = Q := by
    rw [← hQ]; blk_ext! [iblk, V, idx t0_0]
  have hb2 : iblk m c 2 t0_0 = K := by
    rw [← hK]; blk_ext! [iblk, V, idx t0_0]
  have hb3 : iblk m c 3 t0_0 = S := by
    rw [← hS]; blk_ext! [iblk, V, idx t0_0]
  have hb4 : iblk m c 4 t0_0 = V' := by
    rw [← hV]; blk_ext! [iblk, V, idx t0_0]
  have hb5 : iblk m c 5 t0_0 = Z := by
    rw [← hZ]; blk_ext! [iblk, V, idx t0_0]
  rw [hb0, hb1, hb2, hb3, hb4, hb5]
  clear hb0 hb1 hb2 hb3 hb4 hb5 hL hQ hK hS hV hZ
  canon_tiles x h
  · idx_vars x
    generalize eX : View.ld (View.read (Elt Ideal) (View.whole cc0_stg1_0) _) (Rect.unit ![_, 0, 0] _ _) = X
    have hX : ∀ (r : Fin 6144) (d : Fin 128), X (ix3 0 r d) = Q (ix3 1 r d) := by
      intro r d; rw [← eX]; pointwise; exact congrFun (Memref.IsWhole.read_unread _ _) _
    clear eX
    generalize eXK : View.ld (View.read (Elt Ideal) (View.whole cc0_stg2_0) _) (Rect.unit ![_, 0, 0] _ _) = XK
    have hXK : ∀ (r : Fin 32768) (d : Fin 128), XK (ix3 0 r d) = K (ix3 1 r d) := by
      intro r d; rw [← eXK]; pointwise; exact congrFun (Memref.IsWhole.read_unread _ _) _
    clear eXK
    generalize eXS : View.ld (View.read (Elt Ideal) (View.whole cc0_stg3_0) _) (Rect.unit ![_, 0, 0] _ _) = XS
    have hXS : ∀ (r : Fin 32768), XS (ix3 0 0 r) = S (ix3 1 0 r) := by
      intro r; rw [← eXS]; pointwise; exact congrFun (Memref.IsWhole.read_unread _ _) _
    clear eXS
    generalize eXV : View.ld (View.read (Elt Ideal) (View.whole cc0_stg4_0) _) (Rect.unit ![_, 0, 0] _ _) = XV
    have hXV : ∀ (r : Fin 32768) (d : Fin 128), XV (ix3 0 r d) = V' (ix3 1 r d) := by
      intro r d; rw [← eXV]; pointwise; exact congrFun (Memref.IsWhole.read_unread _ _) _
    clear eXV
    generalize eXZ : View.ld (View.read (Elt Ideal) (View.whole cc0_stg5_0) _) (Rect.unit ![_, 0, 0] _ _) = XZ
    have hXZ : ∀ (r : Fin 128), XZ (ix3 0 0 r) = Z (ix3 1 0 r) := by
      intro r; rw [← eXZ]; pointwise; exact congrFun (Memref.IsWhole.read_unread _ _) _
    clear eXZ
    generalize eW : View.ld (View.read (Elt Ideal) (View.whole cc0_stg0_0) _) _ _ = w
    have hw0 : w = L (ix1 1) := by
      rw [← eW]
      refine (View.ld_unit_apply_of _ _ _ _ _ (ix1 1 : S2.Idx) (fun a => ?_)).trans (congrFun (Memref.IsWhole.read_unread _ _) _)
      fin_cases a
      rfl
    have hw : w.toNat ≤ 32768 := by rw [hw0]; exact hl _
    obtain rfl : x0 = 0 := Subsingleton.elim _ _
    refine (pay1_at _ x1 x2).trans ((pay25_at _ hw _ _ _ _ _ x1 x2).trans ?_)
    have e1 : x1 = j 1 := Fin.ext h1.symm
    have e2 : x2 = j 2 := Fin.ext h2.symm
    simp only [hX, hXK, hXS, hXV, hXZ, hw0]
    have e0 : j 0 = (1 : Fin 2) := Fin.ext (show (j 0).val = 1 by omega)
    unfold arrOut outAt qOf
    rw [e1, e2, ← e0]
  · idx_vars x
    generalize eX : View.ld (View.read (Elt Ideal) (View.whole cc0_stg1_0) _) (Rect.unit ![_, 0, 0] _ _) = X
    have hX : ∀ (r : Fin 6144) (d : Fin 128), X (ix3 0 r d) = Q (ix3 0 r d) := by
      intro r d; rw [← eX]; pointwise; exact congrFun (Memref.IsWhole.read_unread _ _) _
    clear eX
    generalize eXK : View.ld (View.read (Elt Ideal) (View.whole cc0_stg2_0) _) (Rect.unit ![_, 0, 0] _ _) = XK
    have hXK : ∀ (r : Fin 32768) (d : Fin 128), XK (ix3 0 r d) = K (ix3 0 r d) := by
      intro r d; rw [← eXK]; pointwise; exact congrFun (Memref.IsWhole.read_unread _ _) _
    clear eXK
    generalize eXS : View.ld (View.read (Elt Ideal) (View.whole cc0_stg3_0) _) (Rect.unit ![_, 0, 0] _ _) = XS
    have hXS : ∀ (r : Fin 32768), XS (ix3 0 0 r) = S (ix3 0 0 r) := by
      intro r; rw [← eXS]; pointwise; exact congrFun (Memref.IsWhole.read_unread _ _) _
    clear eXS
    generalize eXV : View.ld (View.read (Elt Ideal) (View.whole cc0_stg4_0) _) (Rect.unit ![_, 0, 0] _ _) = XV
    have hXV : ∀ (r : Fin 32768) (d : Fin 128), XV (ix3 0 r d) = V' (ix3 0 r d) := by
      intro r d; rw [← eXV]; pointwise; exact congrFun (Memref.IsWhole.read_unread _ _) _
    clear eXV
    generalize eXZ : View.ld (View.read (Elt Ideal) (View.whole cc0_stg5_0) _) (Rect.unit ![_, 0, 0] _ _) = XZ
    have hXZ : ∀ (r : Fin 128), XZ (ix3 0 0 r) = Z (ix3 0 0 r) := by
      intro r; rw [← eXZ]; pointwise; exact congrFun (Memref.IsWhole.read_unread _ _) _
    clear eXZ
    generalize eW : View.ld (View.read (Elt Ideal) (View.whole cc0_stg0_0) _) _ _ = w
    have hw0 : w = L (ix1 0) := by
      rw [← eW]
      refine (View.ld_unit_apply_of _ _ _ _ _ (ix1 0 : S2.Idx) (fun a => ?_)).trans (congrFun (Memref.IsWhole.read_unread _ _) _)
      fin_cases a
      rfl
    have hw : w.toNat ≤ 32768 := by rw [hw0]; exact hl _
    obtain rfl : x0 = 0 := Subsingleton.elim _ _
    refine (pay14_at _ hw _ _ _ _ _ x1 x2).trans ?_
    have e1 : x1 = j 1 := Fin.ext h1.symm
    have e2 : x2 = j 2 := Fin.ext h2.symm
    simp only [hX, hXK, hXS, hXV, hXZ, hw0]
    have e0 : j 0 = (0 : Fin 2) := Fin.ext (show (j 0).val = 0 by omega)
    unfold arrOut outAt qOf
    rw [e1, e2, ← e0]

end Cert.AttnRefIdeal.Gen

end
-- ==== Proof.RefValue.lean ====
module

public import proofs.«01_k».proof.Proof.RefFinal

@[expose] public section

/-! The reference's run, with what its three results hold. -/

set_option maxRecDepth 16384

noncomputable section

namespace Cert.AttnRefIdeal.Gen

open Idealize.ShloMosaic Idealize.ShloMosaic.TcCoe Idealize.SL.Sem Cert.Own

variable (m : (ℓ : Loc nD τ sig) → Buf (Elt Ideal) ℓ) (ρ : Dev nD → PrngReg)

/-- Every run ends with the three result arrays at the functions of the arguments, the arguments unchanged. -/
theorem run_value (hl : ∀ (c : Dev nD) b, (m ((c : Thread nD τ).loc main_arg0) b).toNat ≤ 32768) :
    θ_run defs (onTc (τ := τ) (main (F := Ideal))) ⟨m, fun _ => 0, ρ⟩ (fun r => ∀ c : Dev nD,
      r.2.mem ((c.tc : Thread nD τ).loc main_v0_0) = arrOut (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5))
      ∧ r.2.mem ((c.tc : Thread nD τ).loc main_v0_1) = arrCodes (m ((c : Thread nD τ).loc main_arg1))
      ∧ r.2.mem ((c.tc : Thread nD τ).loc main_v0_2) = arrScale (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨((h.1 c).1 6).trans (final6 m c _ _ _ _ _ _ rfl rfl rfl rfl rfl rfl (hl c)),
      ((h.1 c).1 7).trans (final7 m c _ rfl), ((h.1 c).1 8).trans (final8 m c _ rfl), h.2 c⟩)
    (θ_run_and (run_main m ρ) (unchanged m ρ))

end Cert.AttnRefIdeal.Gen

end
-- ==== Proof.lean ====
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Frame
public import proofs.«01_k».proof.Proof.Gen.Pre_sizes
public import proofs.«01_k».proof.Proof.Pre
public import proofs.«01_k».proof.Proof.PreQ
public import proofs.«01_k».proof.Proof.KI.Value
public import proofs.«01_k».proof.Proof.RefValue
public import Idealize.ShloMosaic.Adequacy
public import Idealize.ShloMosaic.Init

@[expose] public section

set_option maxRecDepth 16384

noncomputable section

namespace Cert.Proof

open Idealize.ShloMosaic Idealize.SL.Sem

/-- The kernel as printed runs, its arguments unchanged and every semaphore at zero. -/
theorem quiescent_bits : Cert.quiescent_Attn := fun m g h =>
  Cert.Attn.Gen.frame m g (Cert.Own.ok_B m) (Cert.Own.lens_B m h)

/-- So does its idealization. -/
theorem quiescent_ideal : Cert.quiescent_AttnIdeal := fun m g h =>
  Cert.AttnIdeal.Gen.frame m g (Cert.Own.ok_I m) (Cert.Own.lens_I m h)

/-- So does the reference. -/
theorem quiescent_ref : Cert.quiescent_AttnRefIdeal := fun m g _ => Cert.AttnRefIdeal.Gen.frame m g

/-- The named constant is the number its name says. -/
theorem preserves : Cert.preserves_Attn_AttnIdeal :=
  IdealRules.named_const.statement _ _ _ _ _ rfl

/-- And it does under the kernel's precondition. -/
theorem quiescent_ref_sizes : Cert.quiescent_AttnRefIdeal_pre_sizes := fun m g _ => Cert.AttnRefIdeal.Gen.frame m g

/-- The idealized kernel and the reference end with the same three arrays: each is the function of the arguments that
    `Arr` writes out. -/
theorem algebraic : Cert.algebraic_AttnIdeal_AttnRefIdeal := by
  intro m g m' g' hpre hagree
  have hl : ∀ (c : Dev Cert.AttnRefIdeal.nD) b, (m' ((c.tc : Thread Cert.AttnRefIdeal.nD Cert.AttnRefIdeal.τ).loc Cert.AttnRefIdeal.main_arg0) b).toNat ≤ 32768 := by
    intro c b
    obtain rfl : c = 0 := Subsingleton.elim _ _
    rw [(hagree 0).1]
    exact (Cert.Own.len_of_pre _ _ _ _ _ _ (hpre 0).1 b).2
  refine ⟨_, _, _, Cert.AttnIdeal.Gen.run_value m g (Cert.Own.ok_I m) (Cert.Own.lens_I m hpre) (fun c b r => ?_), ?_⟩
  · obtain rfl : c = 0 := Subsingleton.elim _ _
    exact Cert.Own.q_of_pre _ _ _ _ _ _ (hpre 0).2 b r
  · refine (θ_run Cert.AttnRefIdeal.defs _ _).mono (fun r h c => ?_) (Cert.AttnRefIdeal.Gen.run_value m' g' hl)
    obtain ⟨h0, h1, h2, hr⟩ := h c
    obtain ⟨a0, a1, a2, a3, a4, a5⟩ := hagree c
    rw [a0, a1, a2, a3, a4, a5] at h0
    rw [a1] at h1 h2
    exact ⟨h0, h1, h2, hr⟩

theorem claim : Cert.Claim :=
  ⟨Cert.Attn.Gen.facts, Cert.AttnIdeal.Gen.facts, Cert.AttnRefIdeal.Gen.facts, Cert.Pre_sizes.Gen.facts,
    quiescent_bits, quiescent_ideal, quiescent_ref, quiescent_ref_sizes, preserves, algebraic⟩

end Cert.Proof

end
